-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x256x1024 : Shape := ⟨3, ![1, 256, 1024]⟩
abbrev S1024x1024 : Shape := ⟨2, ![1024, 1024]⟩
abbrev S_ : Shape := ⟨0, ![]⟩
abbrev S1024x256 : Shape := ⟨2, ![1024, 256]⟩
abbrev S256x1024 : Shape := ⟨2, ![256, 1024]⟩
abbrev S3x64x1024 : Shape := ⟨3, ![3, 64, 1024]⟩
abbrev S64x1024 : Shape := ⟨2, ![64, 1024]⟩
abbrev S3 : Shape := ⟨1, ![3]⟩
abbrev S256x256 : Shape := ⟨2, ![256, 256]⟩
abbrev S256x128 : Shape := ⟨2, ![256, 128]⟩
abbrev S256 : Shape := ⟨1, ![256]⟩
abbrev S256x1 : Shape := ⟨2, ![256, 1]⟩
abbrev S1 : Shape := ⟨1, ![1]⟩
abbrev S1x64x1024 : Shape := ⟨3, ![1, 64, 1024]⟩

abbrev nBuf : Space → Nat
  | .hbm => 30
  | .vmem => 11
  | .smem => 0
  | _ => 0

abbrev bufTy : (tb : Table) → Fin (tcTables nBuf tb) → BufTy
  | .hbm, ⟨0, _⟩ => ⟨S1x256x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S1024x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1024x256, .f32⟩
  | .hbm, ⟨29, _⟩ => ⟨S1x256x1024, .f32⟩
  | .local _ .vmem, ⟨0, _⟩ => ⟨S1x256x1024, .f32⟩
  | .local _ .vmem, ⟨1, _⟩ => ⟨S1024x1024, .f32⟩
  | .local _ .vmem, ⟨2, _⟩ => ⟨S1024x1024, .f32⟩
  | .local _ .vmem, ⟨3, _⟩ => ⟨S1024x256, .f32⟩
  | .local _ .vmem, ⟨4, _⟩ => ⟨S1024x256, .f32⟩
  | .local _ .vmem, ⟨5, _⟩ => ⟨S1x256x1024, .f32⟩
  | .local _ .vmem, ⟨6, _⟩ => ⟨S256x1024, .f32⟩
  | .local _ .vmem, ⟨7, _⟩ => ⟨S256x1024, .bf16⟩
  | .local _ .vmem, ⟨8, _⟩ => ⟨S3x64x1024, .bf16⟩
  | .local _ .vmem, ⟨9, _⟩ => ⟨S64x1024, .bf16⟩
  | .local _ .vmem, ⟨10, _⟩ => ⟨S3x64x1024, .bf16⟩
  | _, _ => ⟨S1x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  (ofTc nBuf bufTy 1 18 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) (c1_i32_70 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v190 : BitVec 32 := Scalar.addi v2 c1_i32_70
  let c4_i32_71 : BitVec 32 := 4#32
  let v191 : BitVec 32 := Scalar.remsi v190 c4_i32_71
  let c64_i32 : BitVec 32 := 64#32
  let v192 : BitVec 32 := Scalar.muli v191 c64_i32
  let c0_i32_79 : BitVec 32 := 0#32
  ![v192.toNat, 0]
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_70 : BitVec 32 := 1#32
  let v190 : BitVec 32 := Scalar.addi v2 c1_i32_70
  let c4_i32_71 : BitVec 32 := 4#32
  let v191 : BitVec 32 := Scalar.remsi v190 c4_i32_71
  let c1_i32_75 : BitVec 32 := 1#32
  let v193 : BitVec 32 := Scalar.muli v191 c1_i32_75
  let v194 : BitVec 32 := Scalar.addi c0_i32_76 v193
  v194.toNat
def k0_dev5 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_80 : BitVec 32 := 2#32
  let v202 : BitVec 32 := Scalar.addi v2 c2_i32_80
  let c4_i32_81 : BitVec 32 := 4#32
  let v203 : BitVec 32 := Scalar.remsi v202 c4_i32_81
  let c1_i32_86 : BitVec 32 := 1#32
  let v205 : BitVec 32 := Scalar.muli v203 c1_i32_86
  let v206 : BitVec 32 := Scalar.addi c0_i32_87 v205
  v206.toNat
def k0_dev6 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_91 : BitVec 32 := 3#32
  let v214 : BitVec 32 := Scalar.addi v2 c3_i32_91
  let c4_i32_92 : BitVec 32 := 4#32
  let v215 : BitVec 32 := Scalar.remsi v214 c4_i32_92
  let c1_i32_97 : BitVec 32 := 1#32
  let v217 : BitVec 32 := Scalar.muli v215 c1_i32_97
  let v218 : BitVec 32 := Scalar.addi c0_i32_98 v217
  v218.toNat
def k0_off2 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_126 : BitVec 32 := 64#32
  let v247 : BitVec 32 := Scalar.muli v2 c64_i32_126
  let v248 : Index := Scalar.indexCast v247
  let c0_127 : Index := 0#32
  ![v248.toNat, 0]
def k0_off3 (d0 : Dev nD) : Fin 3 → Nat :=
  let c0_136 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c64_i32_135 : BitVec 32 := 64#32
  let v262 : BitVec 32 := Scalar.muli v2 c64_i32_135
  let v263 : Index := Scalar.indexCast v262
  let c0_137 : Index := 0#32
  ![0, v263.toNat, 0]
def k0_dev7 (d0 : Dev nD) : Nat :=
  let c0_i32_146 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_140 : BitVec 32 := 1#32
  let v271 : BitVec 32 := Scalar.addi v2 c1_i32_140
  let c4_i32_141 : BitVec 32 := 4#32
  let v272 : BitVec 32 := Scalar.remsi v271 c4_i32_141
  let c1_i32_145 : BitVec 32 := 1#32
  let v273 : BitVec 32 := Scalar.muli v272 c1_i32_145
  let v274 : BitVec 32 := Scalar.addi c0_i32_146 v273
  v274.toNat
def k0_dev8 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_149 : BitVec 32 := 2#32
  let v281 : BitVec 32 := Scalar.addi v2 c2_i32_149
  let c4_i32_150 : BitVec 32 := 4#32
  let v282 : BitVec 32 := Scalar.remsi v281 c4_i32_150
  let c1_i32_154 : BitVec 32 := 1#32
  let v283 : BitVec 32 := Scalar.muli v282 c1_i32_154
  let v284 : BitVec 32 := Scalar.addi c0_i32_155 v283
  v284.toNat
def k0_dev9 (d0 : Dev nD) : Nat :=
  let c0_i32_164 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_158 : BitVec 32 := 3#32
  let v291 : BitVec 32 := Scalar.addi v2 c3_i32_158
  let c4_i32_159 : BitVec 32 := 4#32
  let v292 : BitVec 32 := Scalar.remsi v291 c4_i32_159
  let c1_i32_163 : BitVec 32 := 1#32
  let v293 : BitVec 32 := Scalar.muli v292 c1_i32_163
  let v294 : BitVec 32 := Scalar.addi c0_i32_164 v293
  v294.toNat
def k0_off4 (d0 : Dev nD) (c1_i32_167 : BitVec 32) : Fin 3 → Nat :=
  let c0_181 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v301 : BitVec 32 := Scalar.subi v2 c1_i32_167
  let c4_i32_168 : BitVec 32 := 4#32
  let v302 : BitVec 32 := Scalar.addi v301 c4_i32_168
  let c4_i32_169 : BitVec 32 := 4#32
  let v303 : BitVec 32 := Scalar.remsi v302 c4_i32_169
  let c64_i32_180 : BitVec 32 := 64#32
  let v313 : BitVec 32 := Scalar.muli v303 c64_i32_180
  let v314 : Index := Scalar.indexCast v313
  let c0_182 : Index := 0#32
  ![0, v314.toNat, 0]
abbrev stage0_0 : Fin 1 → Memref sig .tc .vmem S1x256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x256x1024 : Shape := ⟨3, ![1, 256, 1024]⟩
abbrev S1024x4096 : Shape := ⟨2, ![1024, 4096]⟩
abbrev S1024x1024 : Shape := ⟨2, ![1024, 1024]⟩
abbrev S4096x1024 : Shape := ⟨2, ![4096, 1024]⟩
abbrev S1x256x4096 : Shape := ⟨3, ![1, 256, 4096]⟩
abbrev S1x256x32x128 : Shape := ⟨4, ![1, 256, 32, 128]⟩
abbrev S1x256x8x128 : Shape := ⟨4, ![1, 256, 8, 128]⟩
abbrev S1x256x8x4x128 : Shape := ⟨5, ![1, 256, 8, 4, 128]⟩
abbrev S_ : Shape := ⟨0, ![]⟩
abbrev S1x32x256x1 : Shape := ⟨4, ![1, 32, 256, 1]⟩
abbrev S1x32x256x256 : Shape := ⟨4, ![1, 32, 256, 256]⟩
abbrev S1x32x256 : Shape := ⟨3, ![1, 32, 256]⟩
abbrev S1x256x32x1 : Shape := ⟨4, ![1, 256, 32, 1]⟩
abbrev S1x32x128x256 : Shape := ⟨4, ![1, 32, 128, 256]⟩

abbrev nBuf : Space → Nat
  | .hbm => 50
  | .vmem => 0
  | .smem => 0
  | _ => 0

abbrev bufTy : (tb : Table) → Fin (tcTables nBuf tb) → BufTy
  | .hbm, ⟨0, _⟩ => ⟨S1x256x1024, .f32⟩
  | .hbm, ⟨1, _⟩ => ⟨S1024x4096, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1x256x4096, .f32⟩
  | .hbm, ⟨6, _⟩ => ⟨S1x256x32x128, .f32⟩
  | .hbm, ⟨7, _⟩ => ⟨S1x256x1024, .f32⟩
  | .hbm, ⟨8, _⟩ => ⟨S1x256x8x128, .f32⟩
  | .hbm, ⟨9, _⟩ => ⟨S1x256x1024, .f32⟩
  | .hbm, ⟨10, _⟩ => ⟨S1x256x8x128, .f32⟩
  | .hbm, ⟨11, _⟩ => ⟨S1x256x8x4x128, .f32⟩
  | .hbm, ⟨12, _⟩ => ⟨S1x256x32x128, .f32⟩
  | .hbm, ⟨13, _⟩ => ⟨S1x256x8x4x128, .f32⟩
  | .hbm, ⟨14, _⟩ => ⟨S1x256x32x128, .f32⟩
  | .hbm, ⟨15, _⟩ => ⟨S_, .f32⟩
  | .hbm, ⟨16, _⟩ => ⟨S1x256x32x128, .f32⟩
  | .hbm, ⟨17, _⟩ => ⟨S_, .f32⟩
  | .hbm, ⟨18, _⟩ => ⟨S1x32x256x1, .f32⟩
  | .hbm, ⟨19, _⟩ => ⟨S_, .f32⟩
  | .hbm, ⟨20, _⟩ => ⟨S1x32x256x1, .f32⟩
  | .hbm, ⟨21, _⟩ => ⟨S1x32x256x256, .f32⟩
  | .hbm, ⟨22, _⟩ => ⟨S_, .f32⟩
  | .hbm, ⟨23, _⟩ => ⟨S1x32x256x256, .f32⟩
  | .hbm, ⟨24, _⟩ => ⟨S1x32x256x256, .f32⟩
  | .hbm, ⟨25, _⟩ => ⟨S_, .f32⟩
  | .hbm, ⟨26, _⟩ => ⟨S1x32x256, .f32⟩
  | .hbm, ⟨27, _⟩ => ⟨S1x32x256x1, .f32⟩
  | .hbm, ⟨28, _⟩ => ⟨S1x32x256x1, .f32⟩
  | .hbm, ⟨29, _⟩ => ⟨S1x32x256x1, .f32⟩
  | .hbm, ⟨30, _⟩ => ⟨S1x32x256x1, .f32⟩
  | .hbm, ⟨31, _⟩ => ⟨S1x32x256x256, .f32⟩
  | .hbm, ⟨32, _⟩ => ⟨S1x32x256x256, .f32⟩
  | .hbm, ⟨33, _⟩ => ⟨S1x32x256x256, .f32⟩
  | .hbm, ⟨34, _⟩ => ⟨S1x32x256x1, .f32⟩
  | .hbm, ⟨35, _⟩ => ⟨S_, .f32⟩
  | .hbm, ⟨36, _⟩ => ⟨S1x32x256, .f32⟩
  | .hbm, ⟨37, _⟩ => ⟨S1x32x256x1, .f32⟩
  | .hbm, ⟨38, _⟩ => ⟨S1x32x256x1, .f32⟩
  | .hbm, ⟨39, _⟩ => ⟨S1x256x32x1, .f32⟩
  | .hbm, ⟨40, _⟩ => ⟨S1x256x32x128, .f32⟩
  | .hbm, ⟨41, _⟩ => ⟨S1x256x32x128, .f32⟩
  | .hbm, ⟨42, _⟩ => ⟨S1x32x128x256, .f32⟩
  | .hbm, ⟨43, _⟩ => ⟨S1x256x32x128, .f32⟩
  | .hbm, ⟨44, _⟩ => ⟨S1x256x32x128, .f32⟩
  | .hbm, ⟨45, _⟩ => ⟨S1x256x32x1, .f32⟩
  | .hbm, ⟨46, _⟩ => ⟨S1x256x32x128, .f32⟩
  | .hbm, ⟨47, _⟩ => ⟨S1x256x32x128, .f32⟩
  | .hbm, ⟨48, _⟩ => ⟨S1x256x4096, .f32⟩
  | .hbm, ⟨49, _⟩ => ⟨S1x256x1024, .f32⟩
  | _, _ => ⟨S1x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.KernelIdeal.Proto.lean ====
/-
  The protocol of the kernel's four devices, written down before its run.

  Device `c` has thirteen cells of its own.  `p1 c`, `p2 c`, `p3 c` are the devices one, two and three places after `c`.

  * BARRIER: three duties of one unit each.  Duty `d` is paid by the device `d + 1` places BEFORE `c`; with its unit that
    device hands over the two landing slots of its own that `c` will write (slot `2 - d` of its reduce-scatter buffer and of
    its all-gather buffer, whatever they hold) and the marks that the two receive cells of these slots stand at round 0.
    `c` waits once, for all three.
  * RECEIVE cell `j` of the reduce-scatter, one duty, paid by the copy of the device `j + 1` places before `c`: slot `j`
    holding rows `64 c … 64 c + 63` of that device's rounded partial product.
  * SEND cell `j` of the reduce-scatter, one duty, paid by `c`'s own copy `j`: the rows of `c`'s rounded partial product that
    the copy read.
  * RECEIVE cell `j` of the all-gather, one duty, paid by the copy of the device `j + 1` places before `c`: slot `j` holding
    that device's rounded sum.
  * SEND cell `j` of the all-gather, one duty, paid by `c`'s own copy `j`: one of three shares of `c`'s rounded sum.

  The contents are two families, `PB` (the rounded partial product of each device) and `RB` (the rounded sum of each
  device), given here and fixed by the run.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.Ring
public import Idealize.ShloMosaic.Lib.StableHlo
public import Idealize.ShloMosaic.Lib.Tactic

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-! ## The resource algebra: the pipeline library's copy and the protocol's -/

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-! ## The devices after `c` -/

set_option backward.proofsInPublic true in
def p1 (c : Dev nD) : Dev nD := ⟨(c.val + 1) % 4, Nat.mod_lt _ (by decide)⟩
set_option backward.proofsInPublic true in
def p2 (c : Dev nD) : Dev nD := ⟨(c.val + 2) % 4, Nat.mod_lt _ (by decide)⟩
set_option backward.proofsInPublic true in
def p3 (c : Dev nD) : Dev nD := ⟨(c.val + 3) % 4, Nat.mod_lt _ (by decide)⟩

theorem p3_p1 (c : Dev nD) : p3 (p1 c) = c := by revert c; decide
theorem p2_p2 (c : Dev nD) : p2 (p2 c) = c := by revert c; decide
theorem p1_p3 (c : Dev nD) : p1 (p3 c) = c := by revert c; decide

theorem dev1_eq (c : Dev nD) : (⟨k0_dev1 c, k0_dev1_lt c⟩ : Dev nD) = p1 c := Fin.ext (k0_dev1_eq c)
theorem dev2_eq (c : Dev nD) : (⟨k0_dev2 c, k0_dev2_lt c⟩ : Dev nD) = p2 c := Fin.ext (k0_dev2_eq c)
theorem dev3_eq (c : Dev nD) : (⟨k0_dev3 c, k0_dev3_lt c⟩ : Dev nD) = p3 c := Fin.ext (k0_dev3_eq c)
theorem dev4_eq (c : Dev nD) : (⟨k0_dev4 c, k0_dev4_lt c⟩ : Dev nD) = p1 c := Fin.ext (k0_dev4_eq c)
theorem dev5_eq (c : Dev nD) : (⟨k0_dev5 c, k0_dev5_lt c⟩ : Dev nD) = p2 c := Fin.ext (k0_dev5_eq c)
theorem dev6_eq (c : Dev nD) : (⟨k0_dev6 c, k0_dev6_lt c⟩ : Dev nD) = p3 c := Fin.ext (k0_dev6_eq c)
theorem dev7_eq (c : Dev nD) : (⟨k0_dev7 c, k0_dev7_lt c⟩ : Dev nD) = p1 c := Fin.ext (k0_dev7_eq c)
theorem dev8_eq (c : Dev nD) : (⟨k0_dev8 c, k0_dev8_lt c⟩ : Dev nD) = p2 c := Fin.ext (k0_dev8_eq c)
theorem dev9_eq (c : Dev nD) : (⟨k0_dev9 c, k0_dev9_lt c⟩ : Dev nD) = p3 c := Fin.ext (k0_dev9_eq c)

/-! ## The buffers -/

/-- The partial product, its rounding, the reduce-scatter's slots, the rounded sum, the all-gather's slots. -/
abbrev partM : Memref sig .tc .vmem S256x1024 .f32 := Memref.whole cc0_scratch0
abbrev pbM : Memref sig .tc .vmem S256x1024 .bf16 := Memref.whole cc0_scratch1
abbrev rsM : Memref sig .tc .vmem S3x64x1024 .bf16 := Memref.whole cc0_scratch2
abbrev redM : Memref sig .tc .vmem S64x1024 .bf16 := Memref.whole cc0_scratch3
abbrev agM : Memref sig .tc .vmem S3x64x1024 .bf16 := Memref.whole cc0_scratch4

abbrev rsSlot0 : Memref sig .tc .vmem S64x1024 .bf16 :=
  (rsM.slice (Rect.unit (s := S3x64x1024) ![0, 0, 0] S1x64x1024.size inb_S3x64x1024_S1x64x1024_0_0_0) (fun _ => rfl)).squeeze S64x1024 squeezes_S1x64x1024_S64x1024
abbrev rsSlot1 : Memref sig .tc .vmem S64x1024 .bf16 :=
  (rsM.slice (Rect.unit (s := S3x64x1024) ![1, 0, 0] S1x64x1024.size inb_S3x64x1024_S1x64x1024_1_0_0) (fun _ => rfl)).squeeze S64x1024 squeezes_S1x64x1024_S64x1024
abbrev rsSlot2 : Memref sig .tc .vmem S64x1024 .bf16 :=
  (rsM.slice (Rect.unit (s := S3x64x1024) ![2, 0, 0] S1x64x1024.size inb_S3x64x1024_S1x64x1024_2_0_0) (fun _ => rfl)).squeeze S64x1024 squeezes_S1x64x1024_S64x1024
abbrev agSlot0 : Memref sig .tc .vmem S64x1024 .bf16 :=
  (agM.slice (Rect.unit (s := S3x64x1024) ![0, 0, 0] S1x64x1024.size inb_S3x64x1024_S1x64x1024_0_0_0) (fun _ => rfl)).squeeze S64x1024 squeezes_S1x64x1024_S64x1024
abbrev agSlot1 : Memref sig .tc .vmem S64x1024 .bf16 :=
  (agM.slice (Rect.unit (s := S3x64x1024) ![1, 0, 0] S1x64x1024.size inb_S3x64x1024_S1x64x1024_1_0_0) (fun _ => rfl)).squeeze S64x1024 squeezes_S1x64x1024_S64x1024
abbrev agSlot2 : Memref sig .tc .vmem S64x1024 .bf16 :=
  (agM.slice (Rect.unit (s := S3x64x1024) ![2, 0, 0] S1x64x1024.size inb_S3x64x1024_S1x64x1024_2_0_0) (fun _ => rfl)).squeeze S64x1024 squeezes_S1x64x1024_S64x1024

theorem rowsInb (d : Dev nD) : ∀ a, (![64 * d.val, 0] : Fin 2 → ℕ) a + S64x1024.size a ≤ S256x1024.size a := by
  revert d; decide

/-- The 64 rows of the rounded partial product that belong to device `d`. -/
abbrev pbRows (d : Dev nD) : Memref sig .tc .vmem S64x1024 .bf16 :=
  pbM.slice (Rect.unit (s := S256x1024) ![64 * d.val, 0] S64x1024.size (rowsInb d)) (fun _ => rfl)

/-- A rectangle is determined by its offsets. -/
theorem slice_off_congr {s : Shape} {e : EltTy} {o o' : Fin s.rank → ℕ} {z : Fin s.rank → ℕ} (M : Memref sig .tc .vmem s e)
    (h : o = o') (hi : ∀ a, o a + z a ≤ s.size a) (hi' : ∀ a, o' a + z a ≤ s.size a) :
    M.slice (Rect.unit o z hi) (fun _ => rfl) = M.slice (Rect.unit o' z hi') (fun _ => rfl) := by
  subst h; rfl

theorem off1_1 (c : Dev nD) : k0_off1 c 1#32 = ![64 * (p1 c).val, 0] := k0_off1_eq c 0
theorem off1_2 (c : Dev nD) : k0_off1 c 2#32 = ![64 * (p2 c).val, 0] := k0_off1_eq c 1
theorem off1_3 (c : Dev nD) : k0_off1 c 3#32 = ![64 * (p3 c).val, 0] := k0_off1_eq c 2

theorem pbSrc1 (c : Dev nD) :
    pbM.slice (Rect.unit (s := S256x1024) (k0_off1 c 1#32) S64x1024.size (k0_off1_inb c 0)) (fun _ => rfl) = pbRows (p1 c) :=
  slice_off_congr pbM (off1_1 c) _ _
theorem pbSrc2 (c : Dev nD) :
    pbM.slice (Rect.unit (s := S256x1024) (k0_off1 c 2#32) S64x1024.size (k0_off1_inb c 1)) (fun _ => rfl) = pbRows (p2 c) :=
  slice_off_congr pbM (off1_2 c) _ _
theorem pbSrc3 (c : Dev nD) :
    pbM.slice (Rect.unit (s := S256x1024) (k0_off1 c 3#32) S64x1024.size (k0_off1_inb c 2)) (fun _ => rfl) = pbRows (p3 c) :=
  slice_off_congr pbM (off1_3 c) _ _

/-! ## The semaphores and the cells -/

abbrev barS : Sem sig := (SemArray.scalar (sig.barrier 0 rfl) : Sems sig S_).sem

abbrev rsSend0 : DmaSem sig := ((cc0_scratch5.slice (Rect.unit (s := S3) ![0] S1.size inb_S3_S1_0)).squeeze S_ squeezes_S1_S_).sem
abbrev rsSend1 : DmaSem sig := ((cc0_scratch5.slice (Rect.unit (s := S3) ![1] S1.size inb_S3_S1_1)).squeeze S_ squeezes_S1_S_).sem
abbrev rsSend2 : DmaSem sig := ((cc0_scratch5.slice (Rect.unit (s := S3) ![2] S1.size inb_S3_S1_2)).squeeze S_ squeezes_S1_S_).sem
abbrev rsRecv0 : DmaSem sig := ((cc0_scratch6.slice (Rect.unit (s := S3) ![0] S1.size inb_S3_S1_0)).squeeze S_ squeezes_S1_S_).sem
abbrev rsRecv1 : DmaSem sig := ((cc0_scratch6.slice (Rect.unit (s := S3) ![1] S1.size inb_S3_S1_1)).squeeze S_ squeezes_S1_S_).sem
abbrev rsRecv2 : DmaSem sig := ((cc0_scratch6.slice (Rect.unit (s := S3) ![2] S1.size inb_S3_S1_2)).squeeze S_ squeezes_S1_S_).sem
abbrev agSend0 : DmaSem sig := ((cc0_scratch7.slice (Rect.unit (s := S3) ![0] S1.size inb_S3_S1_0)).squeeze S_ squeezes_S1_S_).sem
abbrev agSend1 : DmaSem sig := ((cc0_scratch7.slice (Rect.unit (s := S3) ![1] S1.size inb_S3_S1_1)).squeeze S_ squeezes_S1_S_).sem
abbrev agSend2 : DmaSem sig := ((cc0_scratch7.slice (Rect.unit (s := S3) ![2] S1.size inb_S3_S1_2)).squeeze S_ squeezes_S1_S_).sem
abbrev agRecv0 : DmaSem sig := ((cc0_scratch8.slice (Rect.unit (s := S3) ![0] S1.size inb_S3_S1_0)).squeeze S_ squeezes_S1_S_).sem
abbrev agRecv1 : DmaSem sig := ((cc0_scratch8.slice (Rect.unit (s := S3) ![1] S1.size inb_S3_S1_1)).squeeze S_ squeezes_S1_S_).sem
abbrev agRecv2 : DmaSem sig := ((cc0_scratch8.slice (Rect.unit (s := S3) ![2] S1.size inb_S3_S1_2)).squeeze S_ squeezes_S1_S_).sem

theorem rsSend0_eq : rsSend0 = (6 : Fin 18) := by decide
theorem rsSend1_eq : rsSend1 = (7 : Fin 18) := by decide
theorem rsSend2_eq : rsSend2 = (8 : Fin 18) := by decide
theorem rsRecv0_eq : rsRecv0 = (9 : Fin 18) := by decide
theorem rsRecv1_eq : rsRecv1 = (10 : Fin 18) := by decide
theorem rsRecv2_eq : rsRecv2 = (11 : Fin 18) := by decide
theorem agSend0_eq : agSend0 = (12 : Fin 18) := by decide
theorem agSend1_eq : agSend1 = (13 : Fin 18) := by decide
theorem agSend2_eq : agSend2 = (14 : Fin 18) := by decide
theorem agRecv0_eq : agRecv0 = (15 : Fin 18) := by decide
theorem agRecv1_eq : agRecv1 = (16 : Fin 18) := by decide
theorem agRecv2_eq : agRecv2 = (17 : Fin 18) := by decide

/-- The barrier cell of device `c`, and its cell at the DMA semaphore `s`. -/
abbrev barCell (c : Dev nD) : GSem nD τ sig := ((c : Thread nD τ), .reg barS)
abbrev dcell (s : DmaSem sig) (c : Dev nD) : GSem nD τ sig := ((c : Thread nD τ), .dma s)

/-- What a copy of 64 rows credits. -/
abbrev N : ℕ := RefSig.tileCredit S64x1024 .bf16
theorem N_pos : 0 < N := RefSig.tileCredit_pos _ _ (by decide)

/-! ## The schedule -/

/-- The contents of the rounded partial product's buffer and of the rounded sum's buffer. -/
abbrev PBuf (F : FTy → Type) : Type := (cc0_scratch1 : Ref sig .tc).ty.Contents (Elt F)
abbrev RBuf (F : FTy → Type) : Type := (cc0_scratch3 : Ref sig .tc).ty.Contents (Elt F)

/-- Rows `64 d …` of a rounded partial product. -/
def rowsB (P : PBuf F) (d : Dev nD) : S64x1024.Idx → Elt F .bf16 := (pbRows d).view.read (Elt F) P

/-- A slot held whole at some contents, and at given rows. -/
abbrev anyPts (M : Memref sig .tc .vmem S64x1024 .bf16) (c : Dev nD) : sProp 𝕄 :=
  iprop(∃ f, M.view.loc (c : Thread nD τ) ↦[M.view.set]{fullShare} f)
abbrev atPts (M : Memref sig .tc .vmem S64x1024 .bf16) (c : Dev nD) (x : S64x1024.Idx → Elt F .bf16) : sProp 𝕄 :=
  M.view.loc (c : Thread nD τ) ↦[M.view.set]{fullShare} M.view.rep x
/-- The rounded sum's buffer at a share. -/
abbrev redPts (c : Dev nD) (q : PosShare TreeShare) (x : RBuf F) : sProp 𝕄 :=
  redM.view.loc (c : Thread nD τ) ↦[redM.view.set]{q} x

/-- The three shares the all-gather's three copies read at. -/
abbrev sh0 : PosShare TreeShare := fullShare.left
abbrev sh1 : PosShare TreeShare := fullShare.right.left
abbrev sh2 : PosShare TreeShare := fullShare.right.right

/-- What duty `d` of device `c`'s barrier cell hands over. -/
def barPay (c : Dev nD) : Fin 3 → sProp 𝕄
  | 0 => iprop(anyPts rsSlot2 (p3 c) ∗ anyPts agSlot2 (p3 c) ∗ reached ER (dcell rsRecv2 (p3 c)) 0 ∗ reached ER (dcell agRecv2 (p3 c)) 0)
  | 1 => iprop(anyPts rsSlot1 (p2 c) ∗ anyPts agSlot1 (p2 c) ∗ reached ER (dcell rsRecv1 (p2 c)) 0 ∗ reached ER (dcell agRecv1 (p2 c)) 0)
  | 2 => iprop(anyPts rsSlot0 (p1 c) ∗ anyPts agSlot0 (p1 c) ∗ reached ER (dcell rsRecv0 (p1 c)) 0 ∗ reached ER (dcell agRecv0 (p1 c)) 0)

variable (PB : Dev nD → PBuf F) (RB : Dev nD → RBuf F)

/-- The rounded sum's buffer read as rows. -/
abbrev redV (x : RBuf F) : S64x1024.Idx → Elt F .bf16 := redM.view.read (Elt F) x

/-- What the one duty of device `c`'s cell at DMA semaphore number `n` hands over. -/
def dmaPay (c : Dev nD) : ℕ → sProp 𝕄
  | 6 => anyPts (pbRows (p1 c)) c
  | 7 => anyPts (pbRows (p2 c)) c
  | 8 => anyPts (pbRows (p3 c)) c
  | 9 => atPts rsSlot0 c (rowsB (PB (p3 c)) c)
  | 10 => atPts rsSlot1 c (rowsB (PB (p2 c)) c)
  | 11 => atPts rsSlot2 c (rowsB (PB (p1 c)) c)
  | 12 => redPts c sh0 (RB c)
  | 13 => redPts c sh1 (RB c)
  | 14 => redPts c sh2 (RB c)
  | 15 => atPts agSlot0 c (redV (RB (p3 c)))
  | 16 => atPts agSlot1 c (redV (RB (p2 c)))
  | 17 => atPts agSlot2 c (redV (RB (p1 c)))
  | _ => iprop(emp)

/-- Which duties a semaphore's first round has. -/
def dutySet : SemLoc sig → Finset (Fin 3)
  | .reg _ => Finset.univ
  | .dma i => if 6 ≤ i.val then {0} else ∅

/-- What each duty is worth. -/
def worth : SemLoc sig → ℕ
  | .reg _ => 1
  | .dma _ => N

/-- What each duty hands over. -/
def payOf (c : Dev nD) : SemLoc sig → Fin 3 → sProp 𝕄
  | .reg _, d => barPay c d
  | .dma i, _ => dmaPay PB RB c i.val

/-- The protocol: one round on every cell. -/
def kRd : Rounds.Schedule (GSem nD τ sig) (Fin 3) 𝕄 where
  duties g r := if r = 0 ∧ g.1.2 = .tc then dutySet g.2 else ∅
  unitless _ := False
  amount g _ _ := worth g.2
  payload g _ d := payOf PB RB g.1.1 g.2 d
  amount_pos g _ _ _ := by
    rcases g with ⟨t, s⟩
    cases s
    · exact Nat.one_pos
    · exact N_pos

instance anyPts_storable (M : Memref sig .tc .vmem S64x1024 .bf16) (c : Dev nD) :
    BI.Storable (upEmb : UEmb _ 𝕄) (anyPts (F := F) M c) := by unfold anyPts; infer_instance
instance atPts_storable (M : Memref sig .tc .vmem S64x1024 .bf16) (c : Dev nD) (x : S64x1024.Idx → Elt F .bf16) :
    BI.Storable (upEmb : UEmb _ 𝕄) (atPts M c x) := by unfold atPts; infer_instance
instance redPts_storable (c : Dev nD) (q : PosShare TreeShare) (x : RBuf F) :
    BI.Storable (upEmb : UEmb _ 𝕄) (redPts c q x) := by unfold redPts; infer_instance

set_option synthInstance.maxHeartbeats 400000 in
instance barPay_storable (c : Dev nD) (d : Fin 3) : BI.Storable (upEmb : UEmb _ 𝕄) (barPay (F := F) c d) := by
  match d with
  | 0 => rw [barPay]; infer_instance
  | 1 => rw [barPay]; infer_instance
  | 2 => rw [barPay]; infer_instance
instance dmaPay_storable (c : Dev nD) (n : ℕ) : BI.Storable (upEmb : UEmb _ 𝕄) (dmaPay PB RB c n) := by
  unfold dmaPay; split <;> infer_instance

instance kRd_payload_storable (g : GSem nD τ sig) (r : ℕ) (d : Fin 3) :
    BI.Storable (upEmb : UEmb _ 𝕄) ((kRd PB RB).payload g r d) := by
  rcases g with ⟨t, s⟩
  cases s with
  | reg _ => exact barPay_storable t.1 d
  | dma i => exact dmaPay_storable PB RB t.1 i.val

/-! ### The tables -/

section Tables

variable (c : Dev nD)

theorem duties_later (g : GSem nD τ sig) : ∀ r, 1 ≤ r → (kRd PB RB).duties g r = ∅ :=
  fun r hr => by dsimp only [kRd]; exact if_neg fun h => by omega

theorem duties_bar : (kRd PB RB).duties (barCell c) 0 = {0, 1, 2} := by
  dsimp only [kRd]; rw [if_pos ⟨rfl, rfl⟩]; unfold dutySet; dsimp only; decide
theorem duties_dma (s : DmaSem sig) (h : 6 ≤ s.val) : (kRd PB RB).duties (dcell s c) 0 = {0} := by
  dsimp only [kRd]; rw [if_pos ⟨rfl, rfl⟩]; unfold dutySet; dsimp only; exact if_pos h

theorem amount_bar (d : Fin 3) : (kRd PB RB).amount (barCell c) 0 d = 1 := rfl
theorem amount_dma (s : DmaSem sig) (d : Fin 3) : (kRd PB RB).amount (dcell s c) 0 d = N := rfl

theorem expect_bar : (kRd PB RB).expect (barCell c) 0 = 3 := by
  unfold Schedule.expect Schedule.amountOf; rw [duties_bar]; simp only [amount_bar]; decide
theorem expect_dma (s : DmaSem sig) (h : 6 ≤ s.val) : (kRd PB RB).expect (dcell s c) 0 = N := by
  unfold Schedule.expect Schedule.amountOf; rw [duties_dma PB RB c s h, Finset.sum_singleton, amount_dma]

theorem payload_bar (d : Fin 3) : (kRd PB RB).payload (barCell c) 0 d = barPay c d := rfl
theorem payload_dma (s : DmaSem sig) (n : ℕ) (h : s.val = n) (d : Fin 3) :
    (kRd PB RB).payload (dcell s c) 0 d = dmaPay PB RB c n := by
  subst h; rfl

theorem le_rsSend0 : 6 ≤ rsSend0.val := by decide
theorem le_rsSend1 : 6 ≤ rsSend1.val := by decide
theorem le_rsSend2 : 6 ≤ rsSend2.val := by decide
theorem le_rsRecv0 : 6 ≤ rsRecv0.val := by decide
theorem le_rsRecv1 : 6 ≤ rsRecv1.val := by decide
theorem le_rsRecv2 : 6 ≤ rsRecv2.val := by decide
theorem le_agSend0 : 6 ≤ agSend0.val := by decide
theorem le_agSend1 : 6 ≤ agSend1.val := by decide
theorem le_agSend2 : 6 ≤ agSend2.val := by decide
theorem le_agRecv0 : 6 ≤ agRecv0.val := by decide
theorem le_agRecv1 : 6 ≤ agRecv1.val := by decide
theorem le_agRecv2 : 6 ≤ agRecv2.val := by decide

theorem pay_rsSend0 (d : Fin 3) : (kRd PB RB).payload (dcell rsSend0 c) 0 d = anyPts (pbRows (p1 c)) c := payload_dma PB RB c rsSend0 6 (by decide) d
theorem pay_rsSend1 (d : Fin 3) : (kRd PB RB).payload (dcell rsSend1 c) 0 d = anyPts (pbRows (p2 c)) c := payload_dma PB RB c rsSend1 7 (by decide) d
theorem pay_rsSend2 (d : Fin 3) : (kRd PB RB).payload (dcell rsSend2 c) 0 d = anyPts (pbRows (p3 c)) c := payload_dma PB RB c rsSend2 8 (by decide) d
theorem pay_rsRecv0 (d : Fin 3) : (kRd PB RB).payload (dcell rsRecv0 c) 0 d = atPts rsSlot0 c (rowsB (PB (p3 c)) c) := payload_dma PB RB c rsRecv0 9 (by decide) d
theorem pay_rsRecv1 (d : Fin 3) : (kRd PB RB).payload (dcell rsRecv1 c) 0 d = atPts rsSlot1 c (rowsB (PB (p2 c)) c) := payload_dma PB RB c rsRecv1 10 (by decide) d
theorem pay_rsRecv2 (d : Fin 3) : (kRd PB RB).payload (dcell rsRecv2 c) 0 d = atPts rsSlot2 c (rowsB (PB (p1 c)) c) := payload_dma PB RB c rsRecv2 11 (by decide) d
theorem pay_agSend0 (d : Fin 3) : (kRd PB RB).payload (dcell agSend0 c) 0 d = redPts c sh0 (RB c) := payload_dma PB RB c agSend0 12 (by decide) d
theorem pay_agSend1 (d : Fin 3) : (kRd PB RB).payload (dcell agSend1 c) 0 d = redPts c sh1 (RB c) := payload_dma PB RB c agSend1 13 (by decide) d
theorem pay_agSend2 (d : Fin 3) : (kRd PB RB).payload (dcell agSend2 c) 0 d = redPts c sh2 (RB c) := payload_dma PB RB c agSend2 14 (by decide) d
theorem pay_agRecv0 (d : Fin 3) : (kRd PB RB).payload (dcell agRecv0 c) 0 d = atPts agSlot0 c (redV (RB (p3 c))) := payload_dma PB RB c agRecv0 15 (by decide) d
theorem pay_agRecv1 (d : Fin 3) : (kRd PB RB).payload (dcell agRecv1 c) 0 d = atPts agSlot1 c (redV (RB (p2 c))) := payload_dma PB RB c agRecv1 16 (by decide) d
theorem pay_agRecv2 (d : Fin 3) : (kRd PB RB).payload (dcell agRecv2 c) 0 d = atPts agSlot2 c (redV (RB (p1 c))) := payload_dma PB RB c agRecv2 17 (by decide) d

end Tables

/-! ## What each device owes at launch; the levels -/

/-- The all-gather's three credits, -/
def owedAg (c : Dev nD) : CellTallies nD τ sig Unit :=
  tallyAt (dcell agRecv2 (p3 c)) () N + tallyAt (dcell agRecv1 (p2 c)) () N + tallyAt (dcell agRecv0 (p1 c)) () N
/-- with the reduce-scatter's three, -/
def owedRs (c : Dev nD) : CellTallies nD τ sig Unit :=
  owedAg c + tallyAt (dcell rsRecv2 (p3 c)) () N + tallyAt (dcell rsRecv1 (p2 c)) () N + tallyAt (dcell rsRecv0 (p1 c)) () N
/-- with the barrier's three units. -/
def O₀ (c : Dev nD) : CellTallies nD τ sig Unit :=
  owedRs c + tallyAt (barCell (p3 c)) () 1 + tallyAt (barCell (p2 c)) () 1 + tallyAt (barCell (p1 c)) () 1

def L (g : GSem nD τ sig) : Finset Unit := if g.1.2 = .tc then {()} else ∅
/-- Barrier cells at 1, the reduce-scatter's receive cells at 2, the all-gather's at 3, the rest at 0. -/
def lvOf : SemLoc sig → ℕ
  | .reg _ => 1
  | .dma i => if 15 ≤ i.val then 3 else if 9 ≤ i.val ∧ i.val < 12 then 2 else 0
theorem lv_rsRecv0 : lvOf (.dma rsRecv0) = 2 := by decide
theorem lv_rsRecv1 : lvOf (.dma rsRecv1) = 2 := by decide
theorem lv_rsRecv2 : lvOf (.dma rsRecv2) = 2 := by decide
theorem lv_agRecv0 : lvOf (.dma agRecv0) = 3 := by decide
theorem lv_agRecv1 : lvOf (.dma agRecv1) = 3 := by decide
theorem lv_agRecv2 : lvOf (.dma agRecv2) = 3 := by decide
def lv (g : GSem nD τ sig) (_ : Unit) : ℕ := lvOf g.2

theorem L_of_ne (g : GSem nD τ sig) (h : g.1.2 ≠ .tc) : L g = ∅ := if_neg h
theorem L_tc (c : Dev nD) (sm : SemLoc sig) : L ((c : Thread nD τ), sm) = {()} := if_pos rfl

/-- A tally of one cell counts nothing elsewhere. -/
theorem tally_pos {g g' : GSem nD τ sig} {u u' : Unit} {n : ℕ} (h : 0 < tallyAt g' u' n g u) : g = g' := by
  rw [tallyAt_apply] at h
  by_contra hne
  rw [if_neg (fun hh => hne hh.1)] at h
  exact Nat.lt_irrefl 0 h

theorem owedAg_pos (c : Dev nD) {g : GSem nD τ sig} {u : Unit} (h : 0 < owedAg c g u) : g.1.2 = .tc ∧ lvOf g.2 = 3 := by
  unfold owedAg at h
  simp only [Pi.add_apply, Finsupp.add_apply] at h
  rcases Nat.eq_zero_or_pos (tallyAt (dcell agRecv2 (p3 c)) () N g u) with h1 | h1
  · rcases Nat.eq_zero_or_pos (tallyAt (dcell agRecv1 (p2 c)) () N g u) with h2 | h2
    · have h3 : 0 < tallyAt (dcell agRecv0 (p1 c)) () N g u := by omega
      rw [tally_pos h3]; exact ⟨rfl, lv_agRecv0⟩
    · rw [tally_pos h2]; exact ⟨rfl, lv_agRecv1⟩
  · rw [tally_pos h1]; exact ⟨rfl, lv_agRecv2⟩

theorem owedRs_pos (c : Dev nD) {g : GSem nD τ sig} {u : Unit} (h : 0 < owedRs c g u) : g.1.2 = .tc ∧ 2 ≤ lvOf g.2 := by
  unfold owedRs at h
  simp only [Pi.add_apply, Finsupp.add_apply] at h
  rcases Nat.eq_zero_or_pos (owedAg c g u) with h0 | h0
  · rcases Nat.eq_zero_or_pos (tallyAt (dcell rsRecv2 (p3 c)) () N g u) with h1 | h1
    · rcases Nat.eq_zero_or_pos (tallyAt (dcell rsRecv1 (p2 c)) () N g u) with h2 | h2
      · have h3 : 0 < tallyAt (dcell rsRecv0 (p1 c)) () N g u := by omega
        rw [tally_pos h3]; exact ⟨rfl, lv_rsRecv0.ge⟩
      · rw [tally_pos h2]; exact ⟨rfl, lv_rsRecv1.ge⟩
    · rw [tally_pos h1]; exact ⟨rfl, lv_rsRecv2.ge⟩
  · have := owedAg_pos c h0; exact ⟨this.1, by omega⟩

theorem O₀_pos (c : Dev nD) {g : GSem nD τ sig} {u : Unit} (h : 0 < O₀ c g u) : g.1.2 = .tc ∧ 1 ≤ lvOf g.2 := by
  unfold O₀ at h
  simp only [Pi.add_apply, Finsupp.add_apply] at h
  rcases Nat.eq_zero_or_pos (owedRs c g u) with h0 | h0
  · rcases Nat.eq_zero_or_pos (tallyAt (barCell (p3 c)) () 1 g u) with h1 | h1
    · rcases Nat.eq_zero_or_pos (tallyAt (barCell (p2 c)) () 1 g u) with h2 | h2
      · have h3 : 0 < tallyAt (barCell (p1 c)) () 1 g u := by omega
        rw [tally_pos h3]; exact ⟨rfl, le_refl 1⟩
      · rw [tally_pos h2]; exact ⟨rfl, le_refl 1⟩
    · rw [tally_pos h1]; exact ⟨rfl, le_refl 1⟩
  · have := owedRs_pos c h0; exact ⟨this.1, by omega⟩

theorem mem_L_of_tc {g : GSem nD τ sig} (h : g.1.2 = .tc) (u : Unit) : u ∈ L g := by
  unfold L; rw [if_pos h]; exact Finset.mem_singleton_self _

/-- The barrier is waited for while all six copies are owed: they credit cells of higher levels. -/
theorem mayWait_bar (c : Dev nD) : (levAts L lv : sProp 𝕄) ⊢ MayWait (c : Thread nD τ) (.reg barS) () (owedRs c) :=
  MayOwe.of_cut (L := L) (lev := lv) 1 (fun p hp => by rw [Finset.mem_singleton.mp hp, L_tc]; exact Finset.mem_singleton_self _)
    (fun g u hg => mem_L_of_tc (owedRs_pos c hg).1 u)
    (fun p hp => by rw [Finset.mem_singleton.mp hp]; exact le_refl 1)
    (fun g u hg => by have := (owedRs_pos c hg).2; show 1 < lvOf g.2; omega)

/-- The reduce-scatter's receive cells are waited for while the all-gather's copies are owed. -/
theorem mayWait_rs (c : Dev nD) (s : DmaSem sig) (hs : lvOf (.dma s) = 2) :
    (levAts L lv : sProp 𝕄) ⊢ MayWait (c : Thread nD τ) (.dma s) () (owedAg c) :=
  MayOwe.of_cut (L := L) (lev := lv) 2 (fun p hp => by rw [Finset.mem_singleton.mp hp, L_tc]; exact Finset.mem_singleton_self _)
    (fun g u hg => mem_L_of_tc (owedAg_pos c hg).1 u)
    (fun p hp => by rw [Finset.mem_singleton.mp hp]; exact le_of_eq hs)
    (fun g u hg => by have := (owedAg_pos c hg).2; show 2 < lvOf g.2; omega)

end Cert.KernelIdealProof
-- ==== Proof.KernelIdeal.Steps.lean ====
/-
  The steps of the protocol: the cells and the facts every device may consult, one lemma per kind of step (a wait on a DMA
  cell, a copy of the reduce-scatter, a copy of the all-gather), and the splitting of the buffers into the parts the copies
  move.
-/
module

public import proofs.«01_k».proof.Proof.KernelIdeal.Proto

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (PB : Dev nD → PBuf F) (RB : Dev nD → RBuf F) (K : GSem nD τ sig → ℕ)

abbrev 𝒱₀ : Variants := Variants.none

/-! ## The cells, and what every device may consult -/

/-- The DMA semaphores of the talk, in order. -/
def osem : Fin 12 → SemLoc sig := fun k => .dma (⟨k.val + 6, by omega⟩ : Fin 18)
theorem osem_inj : Function.Injective osem := by decide
theorem osem_ne_bar : ∀ k : Fin 12, osem k ≠ .reg barS := by decide

def barEmb : Dev nD ↪ GSem nD τ sig := ⟨fun c => barCell c, fun _ _ h => congrArg (fun g : GSem nD τ sig => g.1.1) h⟩
def scEmb : Dev nD × Fin 12 ↪ GSem nD τ sig :=
  ⟨fun ck => ((ck.1 : Thread nD τ), osem ck.2), fun _ _ h =>
    Prod.ext (congrArg (fun g : GSem nD τ sig => g.1.1) h) (osem_inj (congrArg Prod.snd h))⟩

abbrev barCells : Finset (GSem nD τ sig) := Finset.univ.map barEmb
abbrev scCells : Finset (GSem nD τ sig) := Finset.univ.map scEmb

theorem bar_mem (c : Dev nD) : barCell c ∈ (barCells ∪ scCells : Finset (GSem nD τ sig)) :=
  Finset.mem_union_left _ (Finset.mem_map_of_mem barEmb (Finset.mem_univ c))
theorem dma_mem (s : DmaSem sig) (hs : 6 ≤ s.val) (c : Dev nD) : dcell s c ∈ (barCells ∪ scCells : Finset (GSem nD τ sig)) := by
  refine Finset.mem_union_right _ (Finset.mem_map.mpr ⟨(c, ⟨s.val - 6, ?_⟩), Finset.mem_univ _, ?_⟩)
  · have : s.val < 18 := s.isLt
    omega
  · refine Prod.ext rfl (congrArg SemLoc.dma (Fin.ext ?_))
    show s.val - 6 + 6 = s.val
    omega

/-- All the invariants under one map of names; round 0 of every barrier cell reached. -/
def records : sProp 𝕄 :=
  iprop((bigSep (barCells ∪ scCells) fun g => cellInv ER (kRd PB RB) (K g) g) ∗ bigSep barCells fun g => reached ER g 0)
instance records_persistent : BI.Persistent (records PB RB K) := by unfold records; infer_instance

/-- What device `c` may consult during its run: the records, the levels, and that its own DMA cells stand at round 0. -/
def ctx (c : Dev nD) : sProp 𝕄 :=
  iprop(records PB RB K ∗ levAts L lv ∗ bigSep Finset.univ fun k : Fin 12 => reached ER ((c : Thread nD τ), osem k) 0)
instance ctx_persistent (c : Dev nD) : BI.Persistent (ctx PB RB K c) := by unfold ctx; infer_instance

theorem elem {I : Type} [DecidableEq I] {S : Finset I} {i : I} (h : i ∈ S) (Φ : I → sProp 𝕄) : bigSep S Φ ⊢ Φ i := bigSep_elim h

theorem ctx_bar (c d : Dev nD) : ctx PB RB K c ⊢ cellInv ER (kRd PB RB) (K (barCell d)) (barCell d) := by
  unfold ctx records
  iintro ⟨⟨HI, -⟩, -⟩
  iapply (elem (bar_mem d) (fun g => (cellInv ER (kRd PB RB) (K g) g : sProp 𝕄))) $$ HI
theorem ctx_dma (c d : Dev nD) (s : DmaSem sig) (hs : 6 ≤ s.val) :
    ctx PB RB K c ⊢ cellInv ER (kRd PB RB) (K (dcell s d)) (dcell s d) := by
  unfold ctx records
  iintro ⟨⟨HI, -⟩, -⟩
  iapply (elem (dma_mem s hs d) (fun g => (cellInv ER (kRd PB RB) (K g) g : sProp 𝕄))) $$ HI
theorem ctx_reached_bar (c d : Dev nD) : ctx PB RB K c ⊢ reached ER (barCell d) 0 := by
  unfold ctx records
  iintro ⟨⟨-, HR⟩, -⟩
  iapply (elem (Finset.mem_map_of_mem barEmb (Finset.mem_univ d)) (fun g => (reached ER g 0 : sProp 𝕄))) $$ HR
theorem ctx_lev (c : Dev nD) : ctx PB RB K c ⊢ levAts L lv := by
  unfold ctx
  iintro ⟨-, H, -⟩; iexact H
theorem ctx_reached (c : Dev nD) (s : DmaSem sig) (hs : 6 ≤ s.val) : ctx PB RB K c ⊢ reached ER (dcell s c) 0 := by
  have hk : s.val - 6 < 12 := by
    have : s.val < 18 := s.isLt
    omega
  have he : osem ⟨s.val - 6, hk⟩ = .dma s := congrArg SemLoc.dma (Fin.ext (by show s.val - 6 + 6 = s.val; omega))
  unfold ctx
  iintro ⟨-, -, H⟩
  ihave H' := (elem (Finset.mem_univ (⟨s.val - 6, hk⟩ : Fin 12)) (fun k : Fin 12 => (reached ER ((c : Thread nD τ), osem k) 0 : sProp 𝕄))) $$ H
  ihave H2 := (Entails.of_eq (congrArg (fun t => (reached ER ((c : Thread nD τ), t) 0 : sProp 𝕄)) he)) $$ H'
  iexact H2

/-! ## The kinds of step -/

section Steps

/-- Device `c` owes `O`, whatever it has waited for. -/
abbrev owesAny (c : Dev nD) (O : CellTallies nD τ sig Unit) : sProp 𝕄 := iprop(∃ W, owes (c : Thread nD τ) O W)

theorem mayWait_zero (c : Dev nD) (sm : SemLoc sig) : (levAts L lv : sProp 𝕄) ⊢ MayWait (c : Thread nD τ) sm () 0 := by
  rw [MayWait_zero]; iintro -; iempintro

/-- A wait for the one duty of a DMA cell of `c`. -/
theorem wait_step (c : Dev nD) (s : DmaSem sig) (hs : 6 ≤ s.val) (P : sProp 𝕄) (hP : ∀ d, (kRd PB RB).payload (dcell s c) 0 d = P)
    (O : CellTallies nD τ sig Unit) (hO : (levAts L lv : sProp 𝕄) ⊢ MayWait (c : Thread nD τ) (.dma s) () O)
    {src dst : Memref sig .tc .vmem S64x1024 .bf16} {h1 : src.view.WordExact} {h2 : dst.view.WordExact}
    {α : Type} {Q : α → sProp 𝕄} {k : PUnit → Prog (TpuEff nD τ sig (Elt F) Λ₀ .tc) α} :
    iprop(ctx PB RB K c ∗ cred (tallyAt (dcell s c) () N) ∗ owesAny c O ∗ atPos ER (dcell s c) 0 ∅ 0)
      ⊢ iprop(((owesAny c O ∗ atPos ER (dcell s c) 1 ∅ 0 ∗ P) -∗ wp frame (wpE (defs₀ (F := F)) 𝒱₀ (c : Thread nD τ) none) Set.univ (k ⟨⟩) Q)
        -∗ wp frame (wpE (defs₀ (F := F)) 𝒱₀ (c : Thread nD τ) none) Set.univ (.op (.waitDma2 s src dst h1 h2) k) Q) := by
  iintro ⟨#HC, Hc, ⟨%W, HO⟩, Hat⟩ Hk
  iapply (Rounds.wp_wait_rest_token 𝒱₀ ER (kRd PB RB) (c : Thread nD τ) none (κ := K (dcell s c))
      (wpE_waitDma2_eq (sem := s) (src := src) (dst := dst) 𝒱₀ (c : Thread nD τ) none Set.univ) (Set.mem_univ _) () (O := O) (W := W) (R := 0) (m := 0) (T := ∅)
      ((Nat.zero_add _).trans (expect_dma PB RB c s hs).symm)) $$ [Hc HO Hat]
  · isplitr; · iapply (ctx_dma PB RB K c c s hs); iexact HC
    isplitl [Hc]; · iexact Hc
    isplitl [HO]; · iexact HO
    isplitr; · iapply hO; iapply (ctx_lev PB RB K c); iexact HC
    iexact Hat
  iintro ⟨HO, Hat, -, Hp⟩
  iapply Hk
  isplitl [HO]; · iexists _; iexact HO
  isplitl [Hat]; · iexact Hat
  iapply (Entails.of_eq (by rw [duties_dma PB RB c s hs, Finset.sdiff_empty, BI.bigSep_singleton, hP])) $$ Hp

/-- A copy from `c` to `p` that pays the duty of `c`'s send cell and the duty of `p`'s receive cell. -/
theorem send_step (c p : Dev nD) (s₁ s₂ : DmaSem sig) (hs₁ : 6 ≤ s₁.val) (hs₂ : 6 ≤ s₂.val) (P₁ P₂ : sProp 𝕄)
    (hP₁ : ∀ d, (kRd PB RB).payload (dcell s₁ c) 0 d = P₁) (hP₂ : ∀ d, (kRd PB RB).payload (dcell s₂ p) 0 d = P₂)
    (O : CellTallies nD τ sig Unit) {src dst : Memref sig .tc .vmem S64x1024 .bf16}
    {hsc : dst.view.ref.isScScratch = false} {hsrc : src.view.WordExact} {hdst : dst.view.WordExact}
    {hsem : DmaTarget.Typed .vmem (.dma s₂) (.remote (Dev.tc p) dst (.dma s₁) hsc)}
    {q : PosShare TreeShare} {fs : Buf (Elt F) (src.view.loc (c : Thread nD τ))}
    (h₁ : (src.view.loc (c : Thread nD τ) ↦[src.view.set]{q} fs) ⊢ P₁)
    (h₂ : ∀ fd, (dst.view.loc (p : Thread nD τ) ↦[dst.view.set]{fullShare} dst.view.write (Elt F) fd (src.view.read (Elt F) fs) Finset.univ) ⊢ P₂)
    {α : Type} {Q : α → sProp 𝕄} {k : PUnit → Prog (TpuEff nD τ sig (Elt F) Λ₀ .tc) α} :
    iprop(ctx PB RB K c ∗ (src.view.loc (c : Thread nD τ) ↦[src.view.set]{q} fs) ∗ anyPts dst p ∗ owesAny c (O + tallyAt (dcell s₂ p) () N)
        ∗ dutyTok ER (dcell s₁ c) 0 0 ∗ dutyTok ER (dcell s₂ p) 0 0 ∗ reached ER (dcell s₂ p) 0)
      ⊢ iprop(((cred (tallyAt (dcell s₁ c) () N) ∗ owesAny c O) -∗ wp frame (wpE (defs₀ (F := F)) 𝒱₀ (c : Thread nD τ) none) Set.univ (k ⟨⟩) Q)
        -∗ wp frame (wpE (defs₀ (F := F)) 𝒱₀ (c : Thread nD τ) none) Set.univ
            (.op (.enqueueDma src (.remote (Dev.tc p) dst (.dma s₁) hsc) (.dma s₂) hsrc hdst hsem) k) Q) := by
  iintro ⟨#HC, Hsrc, ⟨%fd, Hdst⟩, ⟨%W, HO⟩, Ht₁, Ht₂, Hr⟩ Hk
  iapply (Rounds.wp_send_pointsTo 𝒱₀ ER (kRd PB RB) (c : Thread nD τ) none (c' := (p : Thread nD τ)) (src := src) (dst := dst)
      (sS := .dma s₁) (sem := .dma s₂) (q := q) (fs := fs) (κ₁ := K (dcell s₁ c)) (κ₂ := K (dcell s₂ p))
      (r₁ := 0) (r₂ := 0) (d₁ := 0) (d₂ := 0) (fd := fd)
      (by rw [duties_dma PB RB c s₁ hs₁]; exact Finset.mem_singleton_self _) (by rw [duties_dma PB RB p s₂ hs₂]; exact Finset.mem_singleton_self _)
      () () N rfl (amount_dma PB RB c s₁ 0) (amount_dma PB RB p s₂ 0) O rfl (W := W)
      (by rw [hP₁]; exact h₁) (by rw [hP₂]; exact h₂ fd)) $$ [Hsrc Hdst HO Ht₁ Ht₂ Hr]
  · isplitr; · iapply (ctx_dma PB RB K c c s₁ hs₁); iexact HC
    isplitr; · iapply (ctx_dma PB RB K c p s₂ hs₂); iexact HC
    isplitl [Hsrc]; · iexact Hsrc
    isplitl [Hdst]; · iexact Hdst
    isplitl [HO]; · iexact HO
    isplitl [Ht₁]; · iexact Ht₁
    isplitr; · iapply (ctx_reached PB RB K c s₁ hs₁); iexact HC
    isplitl [Ht₂]; · iexact Ht₂
    iexact Hr
  iintro ⟨Hc, HO⟩
  iapply Hk
  isplitl [Hc]; · iexact Hc
  iexists _; iexact HO

/-- A signal of one unit to device `p`'s barrier cell, paying duty `d`. -/
theorem signal_step (c p : Dev nD) (d : Fin 3) (O : CellTallies nD τ sig Unit)
    {α : Type} {Q : α → sProp 𝕄} {k : PUnit → Prog (TpuEff nD τ sig (Elt F) Λ₀ .tc) α} :
    iprop(ctx PB RB K c ∗ owesAny c (O + tallyAt (barCell p) () 1) ∗ dutyTok ER (barCell p) 0 d ∗ barPay p d)
      ⊢ iprop((owesAny c O -∗ wp frame (wpE (defs₀ (F := F)) 𝒱₀ (c : Thread nD τ) none) Set.univ (k ⟨⟩) Q)
        -∗ wp frame (wpE (defs₀ (F := F)) 𝒱₀ (c : Thread nD τ) none) Set.univ
            (.op (.semSignal (Dev.tc p) barS 1) k) Q) := by
  iintro ⟨#HC, ⟨%W, HO⟩, Ht, Hp⟩ Hk
  iapply (Rounds.wp_signal 𝒱₀ ER (kRd PB RB) (c : Thread nD τ) none (dst := (p : Thread nD τ)) (sem := barS) (r := 0) (d := d) (κ := K (barCell p))
      (by rw [duties_bar]; revert d; decide) (amount_bar PB RB p d) () O rfl) $$ [HO Ht Hp]
  · isplitr; · iapply (ctx_bar PB RB K c p); iexact HC
    isplitl [HO]; · iexact HO
    isplitl [Ht]; · iexact Ht
    isplitl [Hp]; · rw [payload_bar]; iexact Hp
    iapply (ctx_reached_bar PB RB K c p); iexact HC
  iintro HO
  iapply Hk
  iexists _; iexact HO

theorem bar_rest (c : Dev nD) :
    bigSep ((kRd PB RB).duties (barCell c) 0 \ ∅) (fun d => (kRd PB RB).payload (barCell c) 0 d)
      = iprop(barPay (F := F) c 0 ∗ barPay c 1 ∗ barPay c 2) := by
  rw [duties_bar, Finset.sdiff_empty, bigSep_insert (by decide), bigSep_insert (by decide), BI.bigSep_singleton,
    payload_bar, payload_bar, payload_bar]
  rfl

/-- The barrier's wait, for all three duties. -/
theorem bar_step (c : Dev nD) {α : Type} {Q : α → sProp 𝕄} {k : PUnit → Prog (TpuEff nD τ sig (Elt F) Λ₀ .tc) α} :
    iprop(ctx PB RB K c ∗ cred (tallyAt (barCell c) () 3) ∗ owesAny c (owedRs c) ∗ atPos ER (barCell c) 0 ∅ 0)
      ⊢ iprop(((owesAny c (owedRs c) ∗ atPos ER (barCell c) 1 ∅ 0 ∗ barPay c 0 ∗ barPay c 1 ∗ barPay c 2)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 3) k) Q) := by
  iintro ⟨#HC, Hc, ⟨%W, HO⟩, Hat⟩ Hk
  iapply (Rounds.wp_wait_rest_token 𝒱₀ ER (kRd PB RB) (c : Thread nD τ) none (κ := K (barCell c))
      (wpE_semWait_eq 𝒱₀ (c : Thread nD τ) none Set.univ) (Set.mem_univ _) () (O := owedRs c) (W := W) (R := 0) (m := 0) (T := ∅)
      ((Nat.zero_add 3).trans (expect_bar PB RB c).symm)) $$ [Hc HO Hat]
  · isplitr; · iapply (ctx_bar PB RB K c c); iexact HC
    isplitl [Hc]; · iexact Hc
    isplitl [HO]; · iexact HO
    isplitr; · iapply (mayWait_bar c); iapply (ctx_lev PB RB K c); iexact HC
    iexact Hat
  iintro ⟨HO, Hat, -, Hp⟩
  iapply Hk
  isplitl [HO]; · iexists _; iexact HO
  isplitl [Hat]; · iexact Hat
  iapply (Entails.of_eq (bar_rest PB RB c)) $$ Hp

end Steps

end Cert.KernelIdealProof
-- ==== Proof.KernelIdeal.Bufs.lean ====
/-
  The buffers in parts: the slots of the two landing buffers, the row blocks of the rounded partial product, the three shares
  of the rounded sum; and what the body's loads read.
-/
module

public import proofs.«01_k».proof.Proof.KernelIdeal.Steps
public import Idealize.ShloMosaic.Lib.Pipeline.Value
public import Idealize.ShloMosaic.Lib.VecWindow
public import Idealize.ShloMosaic.Lib.Writes

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

/-! ## The slots of the two landing buffers -/

theorem slotInb (b : Fin 3) : ∀ a, (![b.val, 0, 0] : Fin 3 → ℕ) a + S1x64x1024.size a ≤ S3x64x1024.size a := by revert b; decide

/-- The elements of slot `b`. -/
abbrev slotSet (b : Fin 3) : Finset S3x64x1024.Idx := (Rect.unit (s := S3x64x1024) ![b.val, 0, 0] S1x64x1024.size (slotInb b)).set

theorem slot_disjoint : ∀ b b' : Fin 3, b ≠ b' → Disjoint (slotSet b) (slotSet b') :=
  lead_disjoint (s := S3x64x1024) (NB := 3) 0 1 (fun b => ![b.val, 0, 0]) S1x64x1024.size slotInb (fun b => (Nat.one_mul _).symm) rfl
theorem slot_cover : Finset.univ.biUnion slotSet = Finset.univ :=
  lead_cover (s := S3x64x1024) (NB := 3) 0 1 (fun b => ![b.val, 0, 0]) S1x64x1024.size slotInb (fun b => (Nat.one_mul _).symm)
    (by intro b a ha; revert b a; decide) rfl (by decide) rfl

theorem rsSet0 : rsSlot0.view.set = slotSet 0 := (View.set_reshape _ _).trans (View.set_slice_whole _ _)
theorem rsSet1 : rsSlot1.view.set = slotSet 1 := (View.set_reshape _ _).trans (View.set_slice_whole _ _)
theorem rsSet2 : rsSlot2.view.set = slotSet 2 := (View.set_reshape _ _).trans (View.set_slice_whole _ _)
theorem agSet0 : agSlot0.view.set = slotSet 0 := (View.set_reshape _ _).trans (View.set_slice_whole _ _)
theorem agSet1 : agSlot1.view.set = slotSet 1 := (View.set_reshape _ _).trans (View.set_slice_whole _ _)
theorem agSet2 : agSlot2.view.set = slotSet 2 := (View.set_reshape _ _).trans (View.set_slice_whole _ _)

theorem rs_split (c : Dev nD) : iprop(∃ f, (c : Thread nD τ).loc cc0_scratch2 ↦{fullShare} f)
    ⊢ (iprop(anyPts rsSlot0 c ∗ anyPts rsSlot1 c ∗ anyPts rsSlot2 c) : sProp 𝕄) :=
  slots3_split (ℓ := (c : Thread nD τ).loc cc0_scratch2) slotSet slot_disjoint slot_cover
    (fun f => rsSlot0.view.loc (c : Thread nD τ) ↦[rsSlot0.view.set]{fullShare} f)
    (fun f => rsSlot1.view.loc (c : Thread nD τ) ↦[rsSlot1.view.set]{fullShare} f)
    (fun f => rsSlot2.view.loc (c : Thread nD τ) ↦[rsSlot2.view.set]{fullShare} f)
    (fun f => by rw [rsSet0]) (fun f => by rw [rsSet1]) (fun f => by rw [rsSet2])
theorem rs_join (c : Dev nD) : iprop(anyPts rsSlot0 c ∗ anyPts rsSlot1 c ∗ anyPts rsSlot2 c)
    ⊢ (iprop(∃ f, (c : Thread nD τ).loc cc0_scratch2 ↦{fullShare} f) : sProp 𝕄) :=
  slots3_join (ℓ := (c : Thread nD τ).loc cc0_scratch2) slotSet slot_disjoint slot_cover
    (fun f => rsSlot0.view.loc (c : Thread nD τ) ↦[rsSlot0.view.set]{fullShare} f)
    (fun f => rsSlot1.view.loc (c : Thread nD τ) ↦[rsSlot1.view.set]{fullShare} f)
    (fun f => rsSlot2.view.loc (c : Thread nD τ) ↦[rsSlot2.view.set]{fullShare} f)
    (fun f => by rw [rsSet0]) (fun f => by rw [rsSet1]) (fun f => by rw [rsSet2])
theorem ag_split (c : Dev nD) : iprop(∃ f, (c : Thread nD τ).loc cc0_scratch4 ↦{fullShare} f)
    ⊢ (iprop(anyPts agSlot0 c ∗ anyPts agSlot1 c ∗ anyPts agSlot2 c) : sProp 𝕄) :=
  slots3_split (ℓ := (c : Thread nD τ).loc cc0_scratch4) slotSet slot_disjoint slot_cover
    (fun f => agSlot0.view.loc (c : Thread nD τ) ↦[agSlot0.view.set]{fullShare} f)
    (fun f => agSlot1.view.loc (c : Thread nD τ) ↦[agSlot1.view.set]{fullShare} f)
    (fun f => agSlot2.view.loc (c : Thread nD τ) ↦[agSlot2.view.set]{fullShare} f)
    (fun f => by rw [agSet0]) (fun f => by rw [agSet1]) (fun f => by rw [agSet2])
theorem ag_join (c : Dev nD) : iprop(anyPts agSlot0 c ∗ anyPts agSlot1 c ∗ anyPts agSlot2 c)
    ⊢ (iprop(∃ f, (c : Thread nD τ).loc cc0_scratch4 ↦{fullShare} f) : sProp 𝕄) :=
  slots3_join (ℓ := (c : Thread nD τ).loc cc0_scratch4) slotSet slot_disjoint slot_cover
    (fun f => agSlot0.view.loc (c : Thread nD τ) ↦[agSlot0.view.set]{fullShare} f)
    (fun f => agSlot1.view.loc (c : Thread nD τ) ↦[agSlot1.view.set]{fullShare} f)
    (fun f => agSlot2.view.loc (c : Thread nD τ) ↦[agSlot2.view.set]{fullShare} f)
    (fun f => by rw [agSet0]) (fun f => by rw [agSet1]) (fun f => by rw [agSet2])

/-! ## The row blocks of the rounded partial product -/

abbrev rowSet (d : Dev nD) : Finset S256x1024.Idx := (Rect.unit (s := S256x1024) ![64 * d.val, 0] S64x1024.size (rowsInb d)).set

theorem row_disjoint : ∀ d d' : Dev nD, d ≠ d' → Disjoint (rowSet d) (rowSet d') :=
  lead_disjoint (s := S256x1024) (NB := 4) 0 64 (fun d => ![64 * d.val, 0]) S64x1024.size rowsInb (fun _ => rfl) rfl
theorem row_cover : Finset.univ.biUnion rowSet = Finset.univ :=
  lead_cover (s := S256x1024) (NB := 4) 0 64 (fun d => ![64 * d.val, 0]) S64x1024.size rowsInb (fun _ => rfl)
    (by intro b a ha; revert b a; decide) rfl (by decide) rfl

theorem pbSet (d : Dev nD) : (pbRows d).view.set = rowSet d := View.set_slice_whole _ _

/-- A separating conjunction over the devices, starting at device `c`. -/
theorem around (c : Dev nD) (Φ : Dev nD → sProp 𝕄) : bigSep Finset.univ Φ = iprop(Φ c ∗ Φ (p1 c) ∗ Φ (p2 c) ∗ Φ (p3 c)) := by
  rw [bigSep_eq_bigSepL_of_eq [c, p1 c, p2 c, p3 c] (by revert c; decide) (by revert c; decide)]
  rfl

/-- One row block held at contents `P` of the whole buffer. -/
abbrev rowPts (d c : Dev nD) (P : PBuf F) : sProp 𝕄 := (pbRows d).view.loc (c : Thread nD τ) ↦[(pbRows d).view.set]{fullShare} P

theorem pb_split (c : Dev nD) (P : PBuf F) : ((c : Thread nD τ).loc cc0_scratch1 ↦{fullShare} P)
    ⊢ (iprop(rowPts c c P ∗ rowPts (p1 c) c P ∗ rowPts (p2 c) c P ∗ rowPts (p3 c) c P) : sProp 𝕄) := by
  refine Entails.of_eq ?_
  rw [pointsTo_blocks (ℓ := (c : Thread nD τ).loc cc0_scratch1) rowSet row_disjoint row_cover P, around c]
  unfold rowPts
  rw [pbSet, pbSet, pbSet, pbSet]
theorem pb_join (c : Dev nD) : iprop(anyPts (pbRows c) c ∗ anyPts (pbRows (p1 c)) c ∗ anyPts (pbRows (p2 c)) c ∗ anyPts (pbRows (p3 c)) c)
    ⊢ (iprop(∃ f, (c : Thread nD τ).loc cc0_scratch1 ↦{fullShare} f) : sProp 𝕄) := by
  have h : iprop(anyPts (pbRows c) c ∗ anyPts (pbRows (p1 c)) c ∗ anyPts (pbRows (p2 c)) c ∗ anyPts (pbRows (p3 c)) c)
      = (bigSep Finset.univ (fun d : Dev nD => iprop(∃ f, (c : Thread nD τ).loc cc0_scratch1 ↦[rowSet d]{fullShare} f)) : sProp 𝕄) := by
    rw [around c]
    unfold anyPts
    rw [pbSet, pbSet, pbSet, pbSet]
  rw [h]
  exact pointsTo_blocks_join_exists (ℓ := (c : Thread nD τ).loc cc0_scratch1) rowSet row_disjoint row_cover (fun _ => Classical.arbitrary _)

/-! ## The three shares of the rounded sum -/

theorem redSet : redM.view.set = Finset.univ := View.set_whole _

theorem red_split (c : Dev nD) (x : RBuf F) : ((c : Thread nD τ).loc cc0_scratch3 ↦{fullShare} x)
    ⊢ (iprop(redPts c sh0 x ∗ redPts c sh1 x ∗ redPts c sh2 x) : sProp 𝕄) := by
  unfold redPts
  rw [redSet]
  iintro H
  ihave H' := (pointsTo_share (PosShare.mem_left_op_right fullShare)).1 $$ H
  icases H' with ⟨Ha, H⟩
  ihave H' := (pointsTo_share (PosShare.mem_left_op_right fullShare.right)).1 $$ H
  icases H' with ⟨Hb, Hc⟩
  isplitl [Ha]; · iexact Ha
  isplitl [Hb] <;> iassumption
theorem red_join (c : Dev nD) (x : RBuf F) : iprop(redPts c sh0 x ∗ redPts c sh1 x ∗ redPts c sh2 x)
    ⊢ ((c : Thread nD τ).loc cc0_scratch3 ↦{fullShare} x : sProp 𝕄) := by
  unfold redPts
  rw [redSet]
  iintro ⟨Ha, Hb, Hc⟩
  iapply (pointsTo_share (PosShare.mem_left_op_right fullShare)).2
  isplitl [Ha]; · iexact Ha
  iapply (pointsTo_share (PosShare.mem_left_op_right fullShare.right)).2
  isplitl [Hb] <;> iassumption

/-! ## What the loads read -/

/-- 64 rows under a leading unit axis. -/
def cube (x : S64x1024.Idx → Elt F .bf16) : S1x64x1024.Idx → Elt F .bf16 :=
  shapeCast S1x64x1024 x squeezes_S1x64x1024_S64x1024.numel_eq.symm

/-- A slot's rectangle of a landing buffer, read where the slot holds `x`. -/
theorem read_slot (M : Memref sig .tc .vmem S3x64x1024 .bf16) (r : Rect S3x64x1024) (hr : ∀ a, r.stride a = 1)
    (hq : r.shape.Squeezes S64x1024) (x : S64x1024.Idx → Elt F .bf16) :
    M.view.readAt (Elt F) r.toLoadRect (((M.slice r hr).squeeze S64x1024 hq).view.rep x)
      = shapeCast r.shape x hq.numel_eq.symm := by
  have h1 := Memref.read_squeeze_slice M r hr hq hq.numel_eq (((M.slice r hr).squeeze S64x1024 hq).view.rep x : M.view.ty.Contents (Elt F))
  have h2 : ((M.slice r hr).squeeze S64x1024 hq).view.read (Elt F) (((M.slice r hr).squeeze S64x1024 hq).view.rep x) = x := View.read_rep _ _
  have h3 := congrArg (fun y => shapeCast r.shape y hq.numel_eq.symm) (h1.symm.trans h2)
  exact (shapeCast_shapeCast _ _ _).symm.trans h3

/-- A load of a slot's rectangle through the landing buffer, of which the slot alone is held. -/
theorem load_slot (c : Dev nD) (M : Memref sig .tc .vmem S3x64x1024 .bf16) (r : Rect S3x64x1024) (hr : ∀ a, r.stride a = 1)
    (hq : r.shape.Squeezes S64x1024) (x : S64x1024.Idx → Elt F .bf16) {hl : M.view.LoadsAt r.toLoadRect}
    {α : Type} {Q : α → sProp 𝕄} {k : (r.shape.Idx → Elt F .bf16) → Prog (TpuEff nD τ sig (Elt F) Λ₀ .tc) α} :
    atPts ((M.slice r hr).squeeze S64x1024 hq) c x
      ⊢ iprop((atPts ((M.slice r hr).squeeze S64x1024 hq) c x
          -∗ wp frame (wpE (defs₀ (F := F)) 𝒱₀ (c : Thread nD τ) none) Set.univ (k (shapeCast r.shape x hq.numel_eq.symm)) Q)
        -∗ wp frame (wpE (defs₀ (F := F)) 𝒱₀ (c : Thread nD τ) none) Set.univ (.op (.load M r.toLoadRect hl) k) Q) := by
  rw [← read_slot M r hr hq x]
  exact wp_load 𝒱₀ (c : Thread nD τ) none Set.univ (m := M) (r := r.toLoadRect) (f := ((M.slice r hr).squeeze S64x1024 hq).view.rep x)
    (S := ((M.slice r hr).squeeze S64x1024 hq).view.set)
    ((View.set_reshape _ _).trans (View.set_slice M.view r)).symm.subset

section Loads

variable {s : Shape} {e : EltTy}

/-- A load of all of a buffer held whole. -/
theorem load_full (c : Dev nD) (m : Memref sig .tc .vmem s e) {off : Fin s.rank → ℕ} {inb : ∀ a, off a + s.size a ≤ s.size a}
    {hl : m.view.LoadsAt (Rect.unit off s.size inb).toLoadRect} (f : Buf (Elt F) (m.view.loc (c : Thread nD τ)))
    {α : Type} {Q : α → sProp 𝕄} {k : (s.Idx → Elt F e) → Prog (TpuEff nD τ sig (Elt F) Λ₀ .tc) α} :
    (m.view.loc (c : Thread nD τ) ↦{fullShare} f)
      ⊢ iprop(((m.view.loc (c : Thread nD τ) ↦{fullShare} f) -∗ wp frame (wpE (defs₀ (F := F)) 𝒱₀ (c : Thread nD τ) none) Set.univ (k (m.view.read (Elt F) f)) Q)
        -∗ wp frame (wpE (defs₀ (F := F)) 𝒱₀ (c : Thread nD τ) none) Set.univ (.op (.load m (Rect.unit off s.size inb).toLoadRect hl) k) Q) := by
  rw [← View.readAt_full m.view f inb]
  exact wp_load 𝒱₀ (c : Thread nD τ) none Set.univ (S := Finset.univ) (Finset.subset_univ _)

/-- A store of all of a buffer held whole. -/
theorem store_full (c : Dev nD) (m : Memref sig .tc .vmem s e) {off : Fin s.rank → ℕ} {inb : ∀ a, off a + s.size a ≤ s.size a}
    (w : s.Idx → Elt F e)
    {hx : (m.access (Rect.unit off s.size inb)).Stores Finset.univ}
    {hm : (Finset.univ : Finset (Rect.unit off s.size inb).shape.Idx) = Finset.univ ∨ ∀ a, (Rect.unit off s.size inb).stride a = 1}
    (f g : m.view.ty.Contents (Elt F))
    (hg : m.view.writes (Elt F) f [⟨Rect.unit off s.size inb, w⟩] = g)
    {α : Type} {Q : α → sProp 𝕄} {k : PUnit → Prog (TpuEff nD τ sig (Elt F) Λ₀ .tc) α} :
    (m.view.loc (c : Thread nD τ) ↦{fullShare} f)
      ⊢ iprop(((m.view.loc (c : Thread nD τ) ↦{fullShare} g) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off s.size inb) w Finset.univ hx hm) k) Q) := by
  have h := wp_store_writes₀ (defs := defs₀ (F := F)) (Q := Q) (k := k) 𝒱₀ (c : Thread nD τ) none Set.univ (S := Finset.univ) (f := f) (w := w) (hx := hx) (hm := hm)
    (Finset.subset_univ _)
  rw [hg] at h
  exact h

end Loads

/-- A store of all of a buffer leaves what was stored. -/
theorem writes_part (f w : S256x1024.Idx → Elt F .f32) :
    partM.view.writes (Elt F) f [⟨Rect.unit (s := S256x1024) ![0, 0] S256x1024.size inb_S256x1024_S256x1024_0_0, w⟩] = w := by
  have h := View.read_writes_full (Val := Elt F) partM.view f inb_S256x1024_S256x1024_0_0 w []
  rw [View.read_whole] at h
  exact h
theorem writes_pb (f w : S256x1024.Idx → Elt F .bf16) :
    pbM.view.writes (Elt F) f [⟨Rect.unit (s := S256x1024) ![0, 0] S256x1024.size inb_S256x1024_S256x1024_0_0, w⟩] = w := by
  have h := View.read_writes_full (Val := Elt F) pbM.view f inb_S256x1024_S256x1024_0_0 w []
  rw [View.read_whole] at h
  exact h
theorem writes_red (f w : S64x1024.Idx → Elt F .bf16) :
    redM.view.writes (Elt F) f [⟨Rect.unit (s := S64x1024) ![0, 0] S64x1024.size inb_S64x1024_S64x1024_0_0, w⟩] = w := by
  have h := View.read_writes_full (Val := Elt F) redM.view f inb_S64x1024_S64x1024_0_0 w []
  rw [View.read_whole] at h
  exact h

end Cert.KernelIdealProof
-- ==== Proof.KernelIdeal.Parts.lean ====
/-
  The body, part by part, up to the end of the reduce-scatter's sends: what each part needs and what it leaves.
-/
module

public import proofs.«01_k».proof.Proof.KernelIdeal.Bufs

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

/-! ## The staged operands, and what is computed from them -/

abbrev xM : Memref sig .tc .vmem S1x256x1024 .f32 := Memref.whole cc0_stg0_0
abbrev wqM : Memref sig .tc .vmem S1024x1024 .f32 := Memref.whole cc0_stg1_0
abbrev woM : Memref sig .tc .vmem S1024x1024 .f32 := Memref.whole cc0_stg2_0
abbrev wkM : Memref sig .tc .vmem S1024x256 .f32 := Memref.whole cc0_stg3_0
abbrev wvM : Memref sig .tc .vmem S1024x256 .f32 := Memref.whole cc0_stg4_0
abbrev outM : Memref sig .tc .vmem S1x256x1024 .f32 := Memref.whole cc0_stg5_0

/-- One device's staged operands. -/
structure Ins (F : FTy → Type) where
  x : S1x256x1024.Idx → Elt F .f32
  wq : S1024x1024.Idx → Elt F .f32
  wo : S1024x1024.Idx → Elt F .f32
  wk : S1024x256.Idx → Elt F .f32
  wv : S1024x256.Idx → Elt F .f32

namespace Ins

variable (I : Ins F)

/-- The queries, the keys and the values of the device's heads. -/
def q : FVec F S256x1024 .bf16 := k0_pay6 (k0_pay1 I.x) (k0_pay2 I.wq)
def k : FVec F S256x256 .bf16 := k0_pay7 (k0_pay1 I.x) (k0_pay3 I.wk)
def v : FVec F S256x256 .bf16 := k0_pay8 (k0_pay1 I.x) (k0_pay4 I.wv)
/-- The first seven heads. -/
def h0 : FVec F S256x128 .bf16 := k0_pay9 (k0_pay1 I.x) (k0_pay2 I.wq) (k0_pay3 I.wk) (k0_pay4 I.wv)
def h1 : FVec F S256x128 .bf16 := k0_pay11 (k0_pay10 (k0_pay1 I.x) (k0_pay2 I.wq) (k0_pay3 I.wk) (k0_pay4 I.wv))
def h2 : FVec F S256x128 .bf16 := k0_pay12 I.q I.k I.v
def h3 : FVec F S256x128 .bf16 := k0_pay13 I.q I.k I.v
def h4 : FVec F S256x128 .bf16 := k0_pay16 (k0_pay14 I.v) (k0_pay15 I.q I.k)
def h5 : FVec F S256x128 .bf16 := k0_pay17 I.q I.k I.v
def h6 : FVec F S256x128 .bf16 := k0_pay18 I.q I.k I.v
/-- The device's partial product, and its rounding. -/
def part : FVec F S256x1024 .f32 :=
  k0_pay23 (k0_pay5 I.wo) I.h0 I.h1 I.h2 I.h3 I.h4 I.h5 I.h6 (k0_pay19 I.q) (k0_pay20 I.k) (k0_pay21 I.v) (constant S256x256 .f32 0x00000000#32)
def pb : FVec F S256x1024 .bf16 :=
  k0_pay24 (k0_pay5 I.wo) I.h0 I.h1 I.h2 I.h3 I.h4 I.h5 I.h6 (k0_pay19 I.q) (k0_pay20 I.k) (k0_pay21 I.v) (constant S256x256 .f32 0x00000000#32)

end Ins

variable (X : Dev nD → Ins F) (K : GSem nD τ sig → ℕ)

/-- The rounded partial product of each device. -/
def PBX (c : Dev nD) : PBuf F := (X c).pb
/-- Device `c`'s own rows of its partial product, -/
def ownRows (c : Dev nD) : FVec F S64x1024 .f32 :=
  partM.view.readAt (Elt F) (Rect.unit (s := S256x1024) (k0_off2 c) S64x1024.size (k0_off2_inb c)).toLoadRect (X c).part
/-- with the rows that the devices three and two places after it sent, and the rows that the device one place after it sent: -/
def sum2 (c : Dev nD) : FVec F S64x1024 .f32 :=
  k0_pay25 (ownRows X c) (cube (rowsB (PBX X (p3 c)) c)) (cube (rowsB (PBX X (p2 c)) c))
def last (c : Dev nD) : FVec F S64x1024 .f32 := k0_pay26 (cube (rowsB (PBX X (p1 c)) c))
/-- their rounded sum. -/
def RBX (c : Dev nD) : RBuf F := k0_pay29 (sum2 X c) (last X c)

/-- What a program of device `c` is proved to do. -/
abbrev runs (c : Dev nD) {α : Type} (P : Prog (TpuEff nD τ sig (Elt F) Λ₀ .tc) α) (Φ : α → sProp 𝕄) : sProp 𝕄 :=
  wp frame (wpE (defs₀ (F := F)) 𝒱₀ (c : Thread nD τ) none) Set.univ P Φ

abbrev cx (c : Dev nD) : sProp 𝕄 := ctx (PBX X) (RBX X) K c

/-! ## The barrier and the loads of the operands -/

theorem give0 (c : Dev nD) : iprop(anyPts rsSlot2 c ∗ anyPts agSlot2 c ∗ reached ER (dcell rsRecv2 c) 0 ∗ reached ER (dcell agRecv2 c) 0)
    ⊢ (barPay (F := F) (p1 c) 0) := by rw [barPay, p3_p1]
theorem give1 (c : Dev nD) : iprop(anyPts rsSlot1 c ∗ anyPts agSlot1 c ∗ reached ER (dcell rsRecv1 c) 0 ∗ reached ER (dcell agRecv1 c) 0)
    ⊢ (barPay (F := F) (p2 c) 1) := by rw [barPay, p2_p2]
theorem give2 (c : Dev nD) : iprop(anyPts rsSlot0 c ∗ anyPts agSlot0 c ∗ reached ER (dcell rsRecv0 c) 0 ∗ reached ER (dcell agRecv0 c) 0)
    ⊢ (barPay (F := F) (p3 c) 2) := by rw [barPay, p1_p3]

/-- The operands that the first part loads. -/
abbrev ops1 (c : Dev nD) : sProp 𝕄 :=
  iprop((xM.view.loc (c : Thread nD τ) ↦{fullShare} (X c).x) ∗ (wqM.view.loc (c : Thread nD τ) ↦{fullShare} (X c).wq)
    ∗ (wkM.view.loc (c : Thread nD τ) ↦{fullShare} (X c).wk) ∗ (wvM.view.loc (c : Thread nD τ) ↦{fullShare} (X c).wv))

/-- What the barrier takes, -/
abbrev barIn (c : Dev nD) : sProp 𝕄 :=
  iprop(owesAny c (O₀ c) ∗ dutyTok ER (barCell (p1 c)) 0 0 ∗ dutyTok ER (barCell (p2 c)) 0 1 ∗ dutyTok ER (barCell (p3 c)) 0 2
    ∗ cred (tallyAt (barCell c) () 3) ∗ atPos ER (barCell c) 0 ∅ 0
    ∗ (anyPts rsSlot0 c ∗ anyPts rsSlot1 c ∗ anyPts rsSlot2 c) ∗ (anyPts agSlot0 c ∗ anyPts agSlot1 c ∗ anyPts agSlot2 c))
/-- and what it leaves. -/
abbrev barOut (c : Dev nD) : sProp 𝕄 :=
  iprop(owesAny c (owedRs c) ∗ atPos ER (barCell c) 1 ∅ 0 ∗ barPay c 0 ∗ barPay c 1 ∗ barPay c 2)

abbrev call1 := k0_part1 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call2 := k0_part2 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call3 := k0_part3 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call4 := k0_part4 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call5 := k0_part5 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call6 := k0_part6 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call7 := k0_part7 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call8 := k0_part8 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call9 := k0_part9 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call10 := k0_part10 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8
abbrev call11 := k0_part11 (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8

/-- The device's word. -/
abbrev word (c : Dev nD) : BitVec 32 := Scalar.remsi (Scalar.divsi (Dev.word c) 1#32) 4#32

theorem part1_runs (c : Dev nD) (Φ : _ → sProp 𝕄) :
    iprop(cx X K c ∗ barIn c ∗ ops1 X c)
      ⊢ iprop(((barOut c ∗ ops1 X c) -∗ Φ ⟨c, word c, k0_pay1 (X c).x, k0_pay2 (X c).wq, k0_pay3 (X c).wk, k0_pay4 (X c).wv⟩) -∗ runs c call1 Φ) := by
  rw [runs, call1, k0_part1_eq_skeleton]
  unfold k0_part1_skel
  simp only [semSignalWord, semWaitWord, Prog.lift, Prog.bind_op, Prog.bind_ret, Prog.pure_eq_ret, wp_deviceId]
  rw [dev1_eq c, dev2_eq c, dev3_eq c]
  iintro ⟨#HC, ⟨HO, Ht0, Ht1, Ht2, Hc, Hat, ⟨Hr0, Hr1, Hr2⟩, ⟨Ha0, Ha1, Ha2⟩⟩, ⟨Hx, Hq, Hk, Hv⟩⟩ HΦ
  iapply (signal_step (PBX X) (RBX X) K c (p1 c) 0 (owedRs c + tallyAt (barCell (p3 c)) () 1 + tallyAt (barCell (p2 c)) () 1)) $$ [HO Ht0 Hr2 Ha2]
  · isplitr; · iexact HC
    isplitl [HO]; · iexact HO
    isplitl [Ht0]; · iexact Ht0
    iapply (give0 c)
    isplitl [Hr2]; · iexact Hr2
    isplitl [Ha2]; · iexact Ha2
    isplitr
    · iapply (ctx_reached (PBX X) (RBX X) K c rsRecv2 le_rsRecv2); iexact HC
    · iapply (ctx_reached (PBX X) (RBX X) K c agRecv2 le_agRecv2); iexact HC
  iintro HO
  iapply (signal_step (PBX X) (RBX X) K c (p2 c) 1 (owedRs c + tallyAt (barCell (p3 c)) () 1)) $$ [HO Ht1 Hr1 Ha1]
  · isplitr; · iexact HC
    isplitl [HO]; · iexact HO
    isplitl [Ht1]; · iexact Ht1
    iapply (give1 c)
    isplitl [Hr1]; · iexact Hr1
    isplitl [Ha1]; · iexact Ha1
    isplitr
    · iapply (ctx_reached (PBX X) (RBX X) K c rsRecv1 le_rsRecv1); iexact HC
    · iapply (ctx_reached (PBX X) (RBX X) K c agRecv1 le_agRecv1); iexact HC
  iintro HO
  iapply (signal_step (PBX X) (RBX X) K c (p3 c) 2 (owedRs c)) $$ [HO Ht2 Hr0 Ha0]
  · isplitr; · iexact HC
    isplitl [HO]; · iexact HO
    isplitl [Ht2]; · iexact Ht2
    iapply (give2 c)
    isplitl [Hr0]; · iexact Hr0
    isplitl [Ha0]; · iexact Ha0
    isplitr
    · iapply (ctx_reached (PBX X) (RBX X) K c rsRecv0 le_rsRecv0); iexact HC
    · iapply (ctx_reached (PBX X) (RBX X) K c agRecv0 le_agRecv0); iexact HC
  iintro HO
  iapply (bar_step (PBX X) (RBX X) K c) $$ [HO Hc Hat]
  · isplitr; · iexact HC
    isplitl [Hc]; · iexact Hc
    isplitl [HO] <;> iassumption
  iintro HB
  iapply (load_full c xM (X c).x) $$ Hx; iintro Hx
  iapply (load_full c wqM (X c).wq) $$ Hq; iintro Hq
  iapply (load_full c wkM (X c).wk) $$ Hk; iintro Hk
  iapply (load_full c wvM (X c).wv) $$ Hv; iintro Hv
  simp only [View.read_whole]
  rw [wp_ret]; imodintro
  iapply HΦ
  isplitl [HB]; · iexact HB
  isplitl [Hx]; · iexact Hx
  isplitl [Hq]; · iexact Hq
  isplitl [Hk] <;> iassumption

theorem part2_runs (c : Dev nD) (v18 v21 v24 v26) (Φ : _ → sProp 𝕄) :
    (woM.view.loc (c : Thread nD τ) ↦{fullShare} (X c).wo)
      ⊢ iprop(((woM.view.loc (c : Thread nD τ) ↦{fullShare} (X c).wo) -∗ Φ ⟨k0_pay5 (X c).wo, k0_pay6 v18 v21, k0_pay7 v18 v24, k0_pay8 v18 v26,
          k0_pay9 v18 v21 v24 v26, k0_pay10 v18 v21 v24 v26⟩) -∗ runs c (call2 v18 v21 v24 v26) Φ) := by
  rw [runs, call2, k0_part2_eq_skeleton]
  unfold k0_part2_skel
  simp only [Prog.lift, Prog.bind_op, Prog.bind_ret, Prog.pure_eq_ret]
  iintro Hx HΦ
  iapply (load_full c woM (X c).wo) $$ Hx; iintro Hx
  simp only [View.read_whole]
  rw [wp_ret]; imodintro
  iapply HΦ
  iexact Hx

theorem part3_runs (c : Dev nD) (v32 v34 v36 v71) (Φ : _ → sProp 𝕄) :
    Φ ⟨k0_pay11 v71, k0_pay12 v32 v34 v36, k0_pay13 v32 v34 v36, k0_pay14 v36, k0_pay15 v32 v34⟩ ⊢ runs c (call3 v32 v34 v36 v71) Φ := by
  rw [runs, call3, k0_part3_eq_skeleton]
  unfold k0_part3_skel
  rw [Prog.pure_eq_ret, wp_ret]
  iintro H; imodintro; iexact H

theorem part4_runs (c : Dev nD) (v32 v34 v36 v111 v118) (Φ : _ → sProp 𝕄) :
    Φ ⟨k0_pay16 v111 v118, k0_pay17 v32 v34 v36, k0_pay18 v32 v34 v36, k0_pay19 v32, k0_pay20 v34, k0_pay21 v36, constant S256x256 .f32 0x00000000#32⟩
      ⊢ runs c (call4 v32 v34 v36 v111 v118) Φ := by
  rw [runs, call4, k0_part4_eq_skeleton]
  unfold k0_part4_skel
  dsimp only
  rw [Prog.pure_eq_ret, wp_ret]
  iintro H; imodintro; iexact H

end Cert.KernelIdealProof
-- ==== Proof.KernelIdeal.Parts2.lean ====
/-
  The body's later parts: the reduce-scatter's sends and waits, the sum, the all-gather's sends and waits, the result.
-/
module

public import proofs.«01_k».proof.Proof.KernelIdeal.Parts

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

variable (X : Dev nD → Ins F) (K : GSem nD τ sig → ℕ)

/-! ## The copies -/

/-- What a copy from `c` to slot `dst` of `p` needs besides its source. -/
abbrev sendIn (s₁ s₂ : DmaSem sig) (c p : Dev nD) (dst : Memref sig .tc .vmem S64x1024 .bf16) : sProp 𝕄 :=
  iprop(anyPts dst p ∗ dutyTok ER (dcell s₁ c) 0 0 ∗ dutyTok ER (dcell s₂ p) 0 0 ∗ reached ER (dcell s₂ p) 0)
/-- What a wait needs, and what it leaves besides the payload. -/
abbrev waitIn (s : DmaSem sig) (c : Dev nD) : sProp 𝕄 := iprop(cred (tallyAt (dcell s c) () N) ∗ atPos ER (dcell s c) 0 ∅ 0)
abbrev done (s : DmaSem sig) (c : Dev nD) : sProp 𝕄 := atPos ER (dcell s c) 1 ∅ 0

/-- A landing, whatever the slot held. -/
theorem landed (p : Dev nD) (dst : Memref sig .tc .vmem S64x1024 .bf16) (x y : S64x1024.Idx → Elt F .bf16) (h : y = x)
    (fd : Buf (Elt F) (dst.view.loc (p : Thread nD τ))) :
    (dst.view.loc (p : Thread nD τ) ↦[dst.view.set]{fullShare} dst.view.write (Elt F) fd y Finset.univ : sProp 𝕄) ⊢ atPts dst p x :=
  pointsTo_rep_of_read (p : Thread nD τ) dst _ fullShare x ((View.read_write_univ _ _).trans h)

/-- The rows that a copy of the reduce-scatter reads, at the offsets printed. -/
theorem read_rows {o o' : Fin 2 → ℕ} (h : o = o') (hi : ∀ a, o a + S64x1024.size a ≤ S256x1024.size a)
    (hi' : ∀ a, o' a + S64x1024.size a ≤ S256x1024.size a) (P : PBuf F) :
    (pbM.slice (Rect.unit (s := S256x1024) o S64x1024.size hi) (fun _ => rfl)).view.read (Elt F) P
      = (pbM.slice (Rect.unit (s := S256x1024) o' S64x1024.size hi') (fun _ => rfl)).view.read (Elt F) P := by
  subst h; rfl
theorem pts_rows {o o' : Fin 2 → ℕ} (h : o = o') (hi : ∀ a, o a + S64x1024.size a ≤ S256x1024.size a)
    (hi' : ∀ a, o' a + S64x1024.size a ≤ S256x1024.size a) (c : Dev nD) (P : PBuf F) :
    ((pbM.slice (Rect.unit (s := S256x1024) o S64x1024.size hi) (fun _ => rfl)).view.loc (c : Thread nD τ)
        ↦[(pbM.slice (Rect.unit (s := S256x1024) o S64x1024.size hi) (fun _ => rfl)).view.set]{fullShare} P : sProp 𝕄)
      = ((pbM.slice (Rect.unit (s := S256x1024) o' S64x1024.size hi') (fun _ => rfl)).view.loc (c : Thread nD τ)
        ↦[(pbM.slice (Rect.unit (s := S256x1024) o' S64x1024.size hi') (fun _ => rfl)).view.set]{fullShare} P) := by
  subst h; rfl

/-- A copy of the reduce-scatter: the rows of `c`'s rounded partial product that belong to `p`. -/
theorem rs_send (c p : Dev nD) (s₁ s₂ : DmaSem sig) (hs₁ : 6 ≤ s₁.val) (hs₂ : 6 ≤ s₂.val) {dst : Memref sig .tc .vmem S64x1024 .bf16}
    (hP₁ : ∀ d, (kRd (PBX X) (RBX X)).payload (dcell s₁ c) 0 d = anyPts (pbRows p) c)
    (hP₂ : ∀ d, (kRd (PBX X) (RBX X)).payload (dcell s₂ p) 0 d = atPts dst p (rowsB (PBX X c) p))
    (O : CellTallies nD τ sig Unit) {e : Dev nD} (he : p = e) {o : Fin 2 → ℕ} (ho : o = ![64 * p.val, 0]) {hi : ∀ a, o a + S64x1024.size a ≤ S256x1024.size a}
    {hsc : dst.view.ref.isScScratch = false} {hsrc} {hdst : dst.view.WordExact}
    {hsem : DmaTarget.Typed .vmem (.dma s₂) (.remote (Dev.tc e) dst (.dma s₁) hsc)}
    {α : Type} {Q : α → sProp 𝕄} {k : PUnit → Prog (TpuEff nD τ sig (Elt F) Λ₀ .tc) α} :
    iprop(cx X K c ∗ rowPts p c (PBX X c) ∗ owesAny c (O + tallyAt (dcell s₂ p) () N) ∗ sendIn s₁ s₂ c p dst)
      ⊢ iprop(((cred (tallyAt (dcell s₁ c) () N) ∗ owesAny c O) -∗ runs c (k ⟨⟩) Q)
        -∗ runs c (.op (.enqueueDma (pbM.slice (Rect.unit (s := S256x1024) o S64x1024.size hi) (fun _ => rfl))
            (.remote (Dev.tc e) dst (.dma s₁) hsc) (.dma s₂) hsrc hdst hsem) k) Q) := by
  subst he
  iintro ⟨#HC, Hrow, HO, Hd, Ht₁, Ht₂, Hr⟩
  iapply (send_step (PBX X) (RBX X) K c p s₁ s₂ hs₁ hs₂ (anyPts (pbRows p) c) (atPts dst p (rowsB (PBX X c) p)) hP₁ hP₂ O
    (src := pbM.slice (Rect.unit (s := S256x1024) o S64x1024.size hi) (fun _ => rfl)) (dst := dst) (q := fullShare) (fs := PBX X c)
    ((Entails.of_eq (pts_rows ho hi (rowsInb p) c (PBX X c))).trans (by iintro H; iexists _; iexact H))
    (landed p dst (rowsB (PBX X c) p) _ (read_rows ho hi (rowsInb p) (PBX X c))))
  isplitr; · iexact HC
  isplitl [Hrow]; · iapply (Entails.of_eq (pts_rows ho hi (rowsInb p) c (PBX X c)).symm) $$ Hrow
  isplitl [Hd]; · iexact Hd
  isplitl [HO]; · iexact HO
  isplitl [Ht₁]; · iexact Ht₁
  isplitl [Ht₂] <;> iassumption

/-- A copy of the all-gather: `c`'s rounded sum, read at the share `q`. -/
theorem ag_send (c p : Dev nD) (s₁ s₂ : DmaSem sig) (hs₁ : 6 ≤ s₁.val) (hs₂ : 6 ≤ s₂.val) {dst : Memref sig .tc .vmem S64x1024 .bf16}
    (q : PosShare TreeShare) (hP₁ : ∀ d, (kRd (PBX X) (RBX X)).payload (dcell s₁ c) 0 d = redPts c q (RBX X c))
    (hP₂ : ∀ d, (kRd (PBX X) (RBX X)).payload (dcell s₂ p) 0 d = atPts dst p (redV (RBX X c)))
    (O : CellTallies nD τ sig Unit) {e : Dev nD} (he : p = e)
    {hsc : dst.view.ref.isScScratch = false} {hsrc} {hdst : dst.view.WordExact}
    {hsem : DmaTarget.Typed .vmem (.dma s₂) (.remote (Dev.tc e) dst (.dma s₁) hsc)}
    {α : Type} {Q : α → sProp 𝕄} {k : PUnit → Prog (TpuEff nD τ sig (Elt F) Λ₀ .tc) α} :
    iprop(cx X K c ∗ redPts c q (RBX X c) ∗ owesAny c (O + tallyAt (dcell s₂ p) () N) ∗ sendIn s₁ s₂ c p dst)
      ⊢ iprop(((cred (tallyAt (dcell s₁ c) () N) ∗ owesAny c O) -∗ runs c (k ⟨⟩) Q)
        -∗ runs c (.op (.enqueueDma redM (.remote (Dev.tc e) dst (.dma s₁) hsc) (.dma s₂) hsrc hdst hsem) k) Q) := by
  subst he
  iintro ⟨#HC, Hrow, HO, Hd, Ht₁, Ht₂, Hr⟩
  iapply (send_step (PBX X) (RBX X) K c p s₁ s₂ hs₁ hs₂ (redPts c q (RBX X c)) (atPts dst p (redV (RBX X c))) hP₁ hP₂ O
    (src := redM) (dst := dst) (q := q) (fs := RBX X c) .rfl (landed p dst (redV (RBX X c)) _ rfl))
  isplitr; · iexact HC
  isplitl [Hrow]; · iexact Hrow
  isplitl [Hd]; · iexact Hd
  isplitl [HO]; · iexact HO
  isplitl [Ht₁]; · iexact Ht₁
  isplitl [Ht₂] <;> iassumption

/-! ## What the copies to each neighbour hand over -/

theorem owedRs_eq (c : Dev nD) : owedRs c = owedAg c + tallyAt (dcell rsRecv2 (p3 c)) () N + tallyAt (dcell rsRecv1 (p2 c)) () N
    + tallyAt (dcell rsRecv0 (p1 c)) () N := rfl
theorem owedAg_eq (c : Dev nD) : owedAg c = tallyAt (dcell agRecv2 (p3 c)) () N + tallyAt (dcell agRecv1 (p2 c)) () N
    + tallyAt (dcell agRecv0 (p1 c)) () N := rfl
theorem to_rs0 (c : Dev nD) (d : Fin 3) : (kRd (PBX X) (RBX X)).payload (dcell rsRecv0 (p1 c)) 0 d = atPts rsSlot0 (p1 c) (rowsB (PBX X c) (p1 c)) := by
  rw [pay_rsRecv0, p3_p1]
theorem to_rs1 (c : Dev nD) (d : Fin 3) : (kRd (PBX X) (RBX X)).payload (dcell rsRecv1 (p2 c)) 0 d = atPts rsSlot1 (p2 c) (rowsB (PBX X c) (p2 c)) := by
  rw [pay_rsRecv1, p2_p2]
theorem to_rs2 (c : Dev nD) (d : Fin 3) : (kRd (PBX X) (RBX X)).payload (dcell rsRecv2 (p3 c)) 0 d = atPts rsSlot2 (p3 c) (rowsB (PBX X c) (p3 c)) := by
  rw [pay_rsRecv2, p1_p3]
theorem to_ag0 (c : Dev nD) (d : Fin 3) : (kRd (PBX X) (RBX X)).payload (dcell agRecv0 (p1 c)) 0 d = atPts agSlot0 (p1 c) (redV (RBX X c)) := by
  rw [pay_agRecv0, p3_p1]
theorem to_ag1 (c : Dev nD) (d : Fin 3) : (kRd (PBX X) (RBX X)).payload (dcell agRecv1 (p2 c)) 0 d = atPts agSlot1 (p2 c) (redV (RBX X c)) := by
  rw [pay_agRecv1, p2_p2]
theorem to_ag2 (c : Dev nD) (d : Fin 3) : (kRd (PBX X) (RBX X)).payload (dcell agRecv2 (p3 c)) 0 d = atPts agSlot2 (p3 c) (redV (RBX X c)) := by
  rw [pay_agRecv2, p1_p3]

/-- A wait of device `c`, its invariants and marks taken from the facts it may consult. -/
theorem wait_at (c : Dev nD) (s : DmaSem sig) (hs : 6 ≤ s.val) (P : sProp 𝕄) (hP : ∀ d, (kRd (PBX X) (RBX X)).payload (dcell s c) 0 d = P)
    (O : CellTallies nD τ sig Unit) (hO : (levAts L lv : sProp 𝕄) ⊢ MayWait (c : Thread nD τ) (.dma s) () O)
    {src dst : Memref sig .tc .vmem S64x1024 .bf16} {h1 : src.view.WordExact} {h2 : dst.view.WordExact}
    {α : Type} {Q : α → sProp 𝕄} {k : PUnit → Prog (TpuEff nD τ sig (Elt F) Λ₀ .tc) α} :
    iprop(cx X K c ∗ owesAny c O ∗ waitIn s c)
      ⊢ iprop(((owesAny c O ∗ done s c ∗ P) -∗ runs c (k ⟨⟩) Q) -∗ runs c (.op (.waitDma2 s src dst h1 h2) k) Q) := by
  iintro ⟨#HC, HO, Hc, Ha⟩
  iapply (wait_step (PBX X) (RBX X) K c s hs P hP O hO)
  isplitr; · iexact HC
  isplitl [Hc]; · iexact Hc
  isplitl [HO] <;> iassumption

/-! ## The reduce-scatter -/

/-- What is still owed after the first two copies. -/
abbrev owed3 (c : Dev nD) : CellTallies nD τ sig Unit := owedAg c + tallyAt (dcell rsRecv2 (p3 c)) () N

abbrev partAt (c : Dev nD) : sProp 𝕄 := partM.view.loc (c : Thread nD τ) ↦{fullShare} ((X c).part : S256x1024.Idx → Elt F .f32)

/-- A load of one slot, as a cube. -/
theorem load_cube (c : Dev nD) (M : Memref sig .tc .vmem S3x64x1024 .bf16) {off : Fin 3 → ℕ} (hi : ∀ a, off a + S1x64x1024.size a ≤ S3x64x1024.size a)
    (x : S64x1024.Idx → Elt F .bf16) {hl : M.view.LoadsAt (Rect.unit (s := S3x64x1024) off S1x64x1024.size hi).toLoadRect}
    {α : Type} {Q : α → sProp 𝕄} {k : (S1x64x1024.Idx → Elt F .bf16) → Prog (TpuEff nD τ sig (Elt F) Λ₀ .tc) α} :
    (atPts ((M.slice (Rect.unit (s := S3x64x1024) off S1x64x1024.size hi) (fun _ => rfl)).squeeze S64x1024 squeezes_S1x64x1024_S64x1024) c x : sProp 𝕄)
      ⊢ iprop((atPts ((M.slice (Rect.unit (s := S3x64x1024) off S1x64x1024.size hi) (fun _ => rfl)).squeeze S64x1024 squeezes_S1x64x1024_S64x1024) c x
          -∗ runs c (k (cube x)) Q)
        -∗ runs c (.op (.load M (Rect.unit (s := S3x64x1024) off S1x64x1024.size hi).toLoadRect hl) k) Q) :=
  load_slot c M (Rect.unit (s := S3x64x1024) off S1x64x1024.size hi) (fun _ => rfl) squeezes_S1x64x1024_S64x1024 x

theorem part5_runs (c : Dev nD) (f0 : S256x1024.Idx → Elt F .f32) (f1 : S256x1024.Idx → Elt F .bf16) (v2) (Φ : _ → sProp 𝕄) :
    iprop(cx X K c ∗ (partM.view.loc (c : Thread nD τ) ↦{fullShare} f0) ∗ (pbM.view.loc (c : Thread nD τ) ↦{fullShare} f1)
        ∗ owesAny c (owedRs c) ∗ sendIn rsSend0 rsRecv0 c (p1 c) rsSlot0)
      ⊢ iprop(((partAt X c ∗ rowPts c c (PBX X c) ∗ rowPts (p2 c) c (PBX X c) ∗ rowPts (p3 c) c (PBX X c)
            ∗ cred (tallyAt (dcell rsSend0 c) () N) ∗ owesAny c (owed3 c + tallyAt (dcell rsRecv1 (p2 c)) () N))
          -∗ Φ ⟨Scalar.remsi (Scalar.addi v2 1#32) 4#32, 2#32⟩)
        -∗ runs c (call5 c v2 (k0_pay5 (X c).wo) (X c).h0 (X c).h1 (X c).h2 (X c).h3 (X c).h4 (X c).h5 (X c).h6
            (k0_pay19 (X c).q) (k0_pay20 (X c).k) (k0_pay21 (X c).v) (constant S256x256 .f32 0x00000000#32)) Φ) := by
  rw [runs, call5, k0_part5_eq_skeleton]
  unfold k0_part5_skel
  simp only [Prog.lift, Prog.bind_op, Prog.bind_ret, Prog.pure_eq_ret]
  iintro ⟨#HC, H0, H1, HO, HS⟩ HΦ
  iapply (load_full c partM f0) $$ H0; iintro H0
  iapply (store_full c partM _ f0 (X c).part (writes_part _ _)) $$ H0; iintro H0
  iapply (load_full c pbM f1) $$ H1; iintro H1
  iapply (store_full c pbM _ f1 (PBX X c) (writes_pb _ _)) $$ H1; iintro H1
  ihave H1' := (pb_split c (PBX X c)) $$ H1
  icases H1' with ⟨Hr0, Hr1, Hr2, Hr3⟩
  iapply (rs_send X K c (p1 c) rsSend0 rsRecv0 le_rsSend0 le_rsRecv0 (pay_rsSend0 (PBX X) (RBX X) c) (to_rs0 X c)
    (owed3 c + tallyAt (dcell rsRecv1 (p2 c)) () N) (dev4_eq c).symm (off1_1 c)) $$ [HO HS Hr1]
  · isplitr; · iexact HC
    isplitl [Hr1]; · iexact Hr1
    isplitl [HO]
    · iapply (Entails.of_eq (congrArg (owesAny (F := F) c) (owedRs_eq c))) $$ HO
    · iexact HS
  iintro ⟨Hc, HO⟩
  rw [runs, wp_ret]; imodintro
  iapply HΦ
  isplitl [H0]; · iexact H0
  isplitl [Hr0]; · iexact Hr0
  isplitl [Hr2]; · iexact Hr2
  isplitl [Hr3]; · iexact Hr3
  isplitl [Hc] <;> iassumption

theorem part6_runs (c : Dev nD) (v2 v191 c2) (hc2 : c2 = 2#32) (Φ : _ → sProp 𝕄) :
    iprop(cx X K c ∗ rowPts (p2 c) c (PBX X c) ∗ rowPts (p3 c) c (PBX X c) ∗ owesAny c (owed3 c + tallyAt (dcell rsRecv1 (p2 c)) () N)
        ∗ sendIn rsSend1 rsRecv1 c (p2 c) rsSlot1 ∗ sendIn rsSend2 rsRecv2 c (p3 c) rsSlot2)
      ⊢ iprop(((cred (tallyAt (dcell rsSend1 c) () N) ∗ cred (tallyAt (dcell rsSend2 c) () N) ∗ owesAny c (owedAg c))
          -∗ Φ ⟨Scalar.remsi (Scalar.addi v2 c2) 4#32, Scalar.remsi (Scalar.addi v2 3#32) 4#32⟩)
        -∗ runs c (call6 c v2 v191 c2) Φ) := by
  rw [runs, call6, k0_part6_eq_skeleton]
  unfold k0_part6_skel
  simp only [Prog.lift, Prog.bind_op, Prog.bind_ret, Prog.pure_eq_ret]
  iintro ⟨#HC, Hr2, Hr3, HO, HS1, HS2⟩ HΦ
  iapply (rs_send X K c (p2 c) rsSend1 rsRecv1 le_rsSend1 le_rsRecv1 (pay_rsSend1 (PBX X) (RBX X) c) (to_rs1 X c)
    (owed3 c) (dev5_eq c).symm (off1_2 c)) $$ [HO HS1 Hr2]
  · isplitr; · iexact HC
    isplitl [Hr2]; · iexact Hr2
    isplitl [HO] <;> iassumption
  iintro ⟨Hc1, HO⟩
  iapply (rs_send X K c (p3 c) rsSend2 rsRecv2 le_rsSend2 le_rsRecv2 (pay_rsSend2 (PBX X) (RBX X) c) (to_rs2 X c)
    (owedAg c) (dev6_eq c).symm (off1_3 c)) $$ [HO HS2 Hr3]
  · isplitr; · iexact HC
    isplitl [Hr3]; · iexact Hr3
    isplitl [HO] <;> iassumption
  iintro ⟨Hc2, HO⟩
  rw [runs, wp_ret]; imodintro
  iapply HΦ
  isplitl [Hc1]; · iexact Hc1
  isplitl [Hc2] <;> iassumption

/-- The three landed slots of the reduce-scatter. -/
abbrev rs0 (c : Dev nD) : sProp 𝕄 := atPts rsSlot0 c (rowsB (PBX X (p3 c)) c)
abbrev rs1 (c : Dev nD) : sProp 𝕄 := atPts rsSlot1 c (rowsB (PBX X (p2 c)) c)
abbrev rs2 (c : Dev nD) : sProp 𝕄 := atPts rsSlot2 c (rowsB (PBX X (p1 c)) c)

theorem part7_runs (c : Dev nD) (v2 v203 v215) (Φ : _ → sProp 𝕄) :
    iprop(cx X K c ∗ owesAny c (owedAg c) ∗ partAt X c ∗ waitIn rsRecv0 c ∗ waitIn rsRecv1 c ∗ waitIn rsRecv2 c)
      ⊢ iprop(((owesAny c (owedAg c) ∗ partAt X c ∗ (done rsRecv0 c ∗ done rsRecv1 c ∗ done rsRecv2 c) ∗ (rs0 X c ∗ rs1 X c ∗ rs2 X c))
          -∗ Φ ⟨sum2 X c, last X c⟩)
        -∗ runs c (call7 c v2 v203 v215) Φ) := by
  rw [runs, call7, k0_part7_eq_skeleton]
  unfold k0_part7_skel sum2 last ownRows
  simp only [Prog.lift, Prog.bind_op, Prog.bind_ret, Prog.pure_eq_ret]
  iintro ⟨#HC, HO, HP, Hw0, Hw1, Hw2⟩ HΦ
  iapply (wait_at X K c rsRecv0 le_rsRecv0 (rs0 X c) (pay_rsRecv0 (PBX X) (RBX X) c) (owedAg c) (mayWait_rs c rsRecv0 lv_rsRecv0)) $$ [HO Hw0]
  · isplitr; · iexact HC
    isplitl [HO] <;> iassumption
  iintro ⟨HO, Hd0, Hs0⟩
  iapply (wait_at X K c rsRecv1 le_rsRecv1 (rs1 X c) (pay_rsRecv1 (PBX X) (RBX X) c) (owedAg c) (mayWait_rs c rsRecv1 lv_rsRecv1)) $$ [HO Hw1]
  · isplitr; · iexact HC
    isplitl [HO] <;> iassumption
  iintro ⟨HO, Hd1, Hs1⟩
  iapply (wait_at X K c rsRecv2 le_rsRecv2 (rs2 X c) (pay_rsRecv2 (PBX X) (RBX X) c) (owedAg c) (mayWait_rs c rsRecv2 lv_rsRecv2)) $$ [HO Hw2]
  · isplitr; · iexact HC
    isplitl [HO] <;> iassumption
  iintro ⟨HO, Hd2, Hs2⟩
  iapply (wp_load 𝒱₀ (c : Thread nD τ) none Set.univ (m := partM) (f := (X c).part) (S := Finset.univ) (Finset.subset_univ _)) $$ HP; iintro HP
  iapply (load_cube c rsM inb_S3x64x1024_S1x64x1024_0_0_0 (rowsB (PBX X (p3 c)) c)) $$ Hs0; iintro Hs0
  iapply (load_cube c rsM inb_S3x64x1024_S1x64x1024_1_0_0 (rowsB (PBX X (p2 c)) c)) $$ Hs1; iintro Hs1
  iapply (load_cube c rsM inb_S3x64x1024_S1x64x1024_2_0_0 (rowsB (PBX X (p1 c)) c)) $$ Hs2; iintro Hs2
  rw [runs, wp_ret]; imodintro
  iapply HΦ
  isplitl [HO]; · iexact HO
  isplitl [HP]; · iexact HP
  isplitl [Hd0 Hd1 Hd2]
  · isplitl [Hd0]; · iexact Hd0
    isplitl [Hd1] <;> iassumption
  · isplitl [Hs0]; · iexact Hs0
    isplitl [Hs1] <;> iassumption

/-! ## The all-gather -/

/-- The stores into the result, the newest first. -/
abbrev Pieces (F : FTy → Type) : Type := List (View.Piece (Elt F) S1x256x1024 .f32)
def out1 (c : Dev nD) : Pieces F :=
  [⟨Rect.unit (s := S1x256x1024) (k0_off3 c) S1x64x1024.size (k0_off3_inb c), k0_pay28 (sum2 X c) (last X c)⟩]
def out2 (c : Dev nD) : Pieces F :=
  ⟨Rect.unit (s := S1x256x1024) (k0_off4 c 1#32) S1x64x1024.size (k0_off4_inb c 0), k0_pay30 (cube (redV (RBX X (p3 c))))⟩ :: out1 X c
def out3 (c : Dev nD) : Pieces F :=
  ⟨Rect.unit (s := S1x256x1024) (k0_off4 c 2#32) S1x64x1024.size (k0_off4_inb c 1), k0_pay31 (cube (redV (RBX X (p2 c))))⟩ :: out2 X c
def out4 (c : Dev nD) : Pieces F :=
  ⟨Rect.unit (s := S1x256x1024) (k0_off4 c 3#32) S1x64x1024.size (k0_off4_inb c 2), k0_pay33 (k0_pay32 (cube (redV (RBX X (p1 c)))))⟩ :: out3 X c

/-- The result's buffer after some stores over `f`. -/
abbrev outAt (c : Dev nD) (f : outM.view.ty.Contents (Elt F)) (L : Pieces F) : sProp 𝕄 :=
  outM.view.loc (c : Thread nD τ) ↦{fullShare} outM.view.writes (Elt F) f L

/-- A load from the result's buffer, its value left alone. -/
theorem out_load (c : Dev nD) (f : outM.view.ty.Contents (Elt F)) {r : LoadRect S1x256x1024} {hl : outM.view.LoadsAt r}
    {α : Type} {Q : α → sProp 𝕄} {k : (r.shape.Idx → Elt F .f32) → Prog (TpuEff nD τ sig (Elt F) Λ₀ .tc) α} :
    (outM.view.loc (c : Thread nD τ) ↦{fullShare} f : sProp 𝕄)
      ⊢ iprop(((outM.view.loc (c : Thread nD τ) ↦{fullShare} f) -∗ runs c (k (outM.view.readAt (Elt F) r f)) Q) -∗ runs c (.op (.load outM r hl) k) Q) :=
  wp_load 𝒱₀ (c : Thread nD τ) none Set.univ (S := Finset.univ) (Finset.subset_univ _)

/-- A store into the result, over what was stored before. -/
theorem out_store (c : Dev nD) (f : outM.view.ty.Contents (Elt F)) (L : Pieces F) {r : Rect S1x256x1024} {w : r.shape.Idx → Elt F .f32}
    (L' : Pieces F) (hL : L' = ⟨r, w⟩ :: L)
    {hx : (outM.access r).Stores Finset.univ} {hm : (Finset.univ : Finset r.shape.Idx) = Finset.univ ∨ ∀ a, r.stride a = 1}
    {α : Type} {Q : α → sProp 𝕄} {k : PUnit → Prog (TpuEff nD τ sig (Elt F) Λ₀ .tc) α} :
    (outAt c f L : sProp 𝕄) ⊢ iprop((outAt c f L' -∗ runs c (k ⟨⟩) Q) -∗ runs c (.op (.store outM r w Finset.univ hx hm) k) Q) := by
  subst hL
  exact wp_store_writes 𝒱₀ (c : Thread nD τ) none Set.univ (S := Finset.univ) (Finset.subset_univ _)

/-- What is still owed after the all-gather's first two copies. -/
abbrev owed1 (c : Dev nD) : CellTallies nD τ sig Unit := tallyAt (dcell agRecv2 (p3 c)) () N

theorem part8_runs (c : Dev nD) (f : outM.view.ty.Contents (Elt F)) (g : S64x1024.Idx → Elt F .bf16) (v2) (Φ : _ → sProp 𝕄) :
    iprop(cx X K c ∗ owesAny c (owedAg c) ∗ (outM.view.loc (c : Thread nD τ) ↦{fullShare} f) ∗ (redM.view.loc (c : Thread nD τ) ↦{fullShare} g)
        ∗ sendIn agSend0 agRecv0 c (p1 c) agSlot0 ∗ sendIn agSend1 agRecv1 c (p2 c) agSlot1)
      ⊢ iprop(((owesAny c (owed1 c) ∗ outAt c f (out1 X c) ∗ redPts c sh2 (RBX X c)
            ∗ cred (tallyAt (dcell agSend0 c) () N) ∗ cred (tallyAt (dcell agSend1 c) () N))
          -∗ Φ ⟨Scalar.remsi (Scalar.addi v2 1#32) 4#32, Scalar.remsi (Scalar.addi v2 2#32) 4#32, Scalar.addi v2 3#32, 4#32⟩)
        -∗ runs c (call8 c v2 (sum2 X c) (last X c)) Φ) := by
  rw [runs, call8, k0_part8_eq_skeleton]
  unfold k0_part8_skel
  simp only [Prog.lift, Prog.bind_op, Prog.bind_ret, Prog.pure_eq_ret]
  iintro ⟨#HC, HO, Ho, Hg, HS0, HS1⟩ HΦ
  iapply (out_load c (f)) $$ Ho; iintro Ho
  ihave Ho' : outAt c f [] $$ [Ho]
  · iexact Ho
  iapply (out_store c f [] (out1 X c) rfl) $$ Ho'; iintro Ho
  iapply (load_full c redM g) $$ Hg; iintro Hg
  iapply (store_full c redM _ g (RBX X c) (writes_red _ _)) $$ Hg; iintro Hg
  ihave Hg' := (red_split c (RBX X c)) $$ Hg
  icases Hg' with ⟨Hg0, Hg1, Hg2⟩
  iapply (ag_send X K c (p1 c) agSend0 agRecv0 le_agSend0 le_agRecv0 sh0 (pay_agSend0 (PBX X) (RBX X) c) (to_ag0 X c)
    (owed1 c + tallyAt (dcell agRecv1 (p2 c)) () N) (dev7_eq c).symm) $$ [HO HS0 Hg0]
  · isplitr; · iexact HC
    isplitl [Hg0]; · iexact Hg0
    isplitl [HO]
    · iapply (Entails.of_eq (congrArg (owesAny (F := F) c) (owedAg_eq c))) $$ HO
    · iexact HS0
  iintro ⟨Hc0, HO⟩
  iapply (ag_send X K c (p2 c) agSend1 agRecv1 le_agSend1 le_agRecv1 sh1 (pay_agSend1 (PBX X) (RBX X) c) (to_ag1 X c)
    (owed1 c) (dev8_eq c).symm) $$ [HO HS1 Hg1]
  · isplitr; · iexact HC
    isplitl [Hg1]; · iexact Hg1
    isplitl [HO] <;> iassumption
  iintro ⟨Hc1, HO⟩
  rw [runs, wp_ret]; imodintro
  iapply HΦ
  isplitl [HO]; · iexact HO
  isplitl [Ho]; · iexact Ho
  isplitl [Hg2]; · iexact Hg2
  isplitl [Hc0] <;> iassumption

/-- The three landed slots of the all-gather. -/
abbrev ag0 (c : Dev nD) : sProp 𝕄 := atPts agSlot0 c (redV (RBX X (p3 c)))
abbrev ag1 (c : Dev nD) : sProp 𝕄 := atPts agSlot1 c (redV (RBX X (p2 c)))
abbrev ag2 (c : Dev nD) : sProp 𝕄 := atPts agSlot2 c (redV (RBX X (p1 c)))

theorem part9_runs (c : Dev nD) (f : outM.view.ty.Contents (Elt F)) (v2 v272 v291 c4) (Φ : _ → sProp 𝕄) :
    iprop(cx X K c ∗ owesAny c (owed1 c) ∗ outAt c f (out1 X c) ∗ redPts c sh2 (RBX X c)
        ∗ sendIn agSend2 agRecv2 c (p3 c) agSlot2 ∗ waitIn agRecv0 c)
      ⊢ iprop(((owesAny c 0 ∗ outAt c f (out2 X c) ∗ cred (tallyAt (dcell agSend2 c) () N) ∗ done agRecv0 c ∗ ag0 X c)
          -∗ Φ ⟨Scalar.remsi v291 c4, Scalar.remsi (Scalar.addi (Scalar.subi v2 2#32) 4#32) 4#32⟩)
        -∗ runs c (call9 c v2 v272 v291 c4) Φ) := by
  rw [runs, call9, k0_part9_eq_skeleton]
  unfold k0_part9_skel
  simp only [Prog.lift, Prog.bind_op, Prog.bind_ret, Prog.pure_eq_ret]
  iintro ⟨#HC, HO, Ho, Hg, HS, Hw⟩ HΦ
  iapply (ag_send X K c (p3 c) agSend2 agRecv2 le_agSend2 le_agRecv2 sh2 (pay_agSend2 (PBX X) (RBX X) c) (to_ag2 X c) 0 (dev9_eq c).symm) $$ [HO HS Hg]
  · isplitr; · iexact HC
    isplitl [Hg]; · iexact Hg
    isplitl [HO]
    · iapply (Entails.of_eq (congrArg (owesAny (F := F) c) (zero_add (owed1 c)).symm)) $$ HO
    · iexact HS
  iintro ⟨Hc, HO⟩
  iapply (wait_at X K c agRecv0 le_agRecv0 (ag0 X c) (pay_agRecv0 (PBX X) (RBX X) c) 0 (mayWait_zero c _)) $$ [HO Hw]
  · isplitr; · iexact HC
    isplitl [HO] <;> iassumption
  iintro ⟨HO, Hd, Hs⟩
  iapply (load_cube c agM inb_S3x64x1024_S1x64x1024_0_0_0 (redV (RBX X (p3 c)))) $$ Hs; iintro Hs
  iapply (out_load c (outM.view.writes (Elt F) f (out1 X c))) $$ Ho; iintro Ho
  iapply (out_store c f (out1 X c) (out2 X c) rfl) $$ Ho; iintro Ho
  rw [runs, wp_ret]; imodintro
  iapply HΦ
  isplitl [HO]; · iexact HO
  isplitl [Ho]; · iexact Ho
  isplitl [Hc]; · iexact Hc
  isplitl [Hd] <;> iassumption

theorem part10_runs (c : Dev nD) (f : outM.view.ty.Contents (Elt F)) (v2 v282 v292 v320) (Φ : _ → sProp 𝕄) :
    iprop(cx X K c ∗ owesAny c 0 ∗ outAt c f (out2 X c) ∗ waitIn agRecv1 c ∗ waitIn agRecv2 c)
      ⊢ iprop(((owesAny c 0 ∗ outAt c f (out3 X c) ∗ (done agRecv1 c ∗ done agRecv2 c) ∗ (ag1 X c ∗ ag2 X c))
          -∗ Φ (k0_pay32 (cube (redV (RBX X (p1 c))))))
        -∗ runs c (call10 c v2 v282 v292 v320) Φ) := by
  rw [runs, call10, k0_part10_eq_skeleton]
  unfold k0_part10_skel
  simp only [Prog.lift, Prog.bind_op, Prog.bind_ret, Prog.pure_eq_ret]
  iintro ⟨#HC, HO, Ho, Hw1, Hw2⟩ HΦ
  iapply (wait_at X K c agRecv1 le_agRecv1 (ag1 X c) (pay_agRecv1 (PBX X) (RBX X) c) 0 (mayWait_zero c _)) $$ [HO Hw1]
  · isplitr; · iexact HC
    isplitl [HO] <;> iassumption
  iintro ⟨HO, Hd1, Hs1⟩
  iapply (load_cube c agM inb_S3x64x1024_S1x64x1024_1_0_0 (redV (RBX X (p2 c)))) $$ Hs1; iintro Hs1
  iapply (out_load c (outM.view.writes (Elt F) f (out2 X c))) $$ Ho; iintro Ho
  iapply (out_store c f (out2 X c) (out3 X c) rfl) $$ Ho; iintro Ho
  iapply (wait_at X K c agRecv2 le_agRecv2 (ag2 X c) (pay_agRecv2 (PBX X) (RBX X) c) 0 (mayWait_zero c _)) $$ [HO Hw2]
  · isplitr; · iexact HC
    isplitl [HO] <;> iassumption
  iintro ⟨HO, Hd2, Hs2⟩
  iapply (load_cube c agM inb_S3x64x1024_S1x64x1024_2_0_0 (redV (RBX X (p1 c)))) $$ Hs2; iintro Hs2
  iapply (out_load c (outM.view.writes (Elt F) f (out3 X c))) $$ Ho; iintro Ho
  rw [runs, wp_ret]; imodintro
  iapply HΦ
  isplitl [HO]; · iexact HO
  isplitl [Ho]; · iexact Ho
  isplitl [Hd1 Hd2]
  · isplitl [Hd1] <;> iassumption
  · isplitl [Hs1] <;> iassumption

/-- The waits for the copies sent. -/
theorem part11_runs (c : Dev nD) (f : outM.view.ty.Contents (Elt F)) (Φ : _ → sProp 𝕄) :
    iprop(cx X K c ∗ owesAny c 0 ∗ outAt c f (out3 X c) ∗ waitIn rsSend0 c ∗ waitIn rsSend1 c ∗ waitIn rsSend2 c ∗ waitIn agSend0 c)
      ⊢ iprop(((owesAny c 0 ∗ outAt c f (out4 X c) ∗ (done rsSend0 c ∗ done rsSend1 c ∗ done rsSend2 c ∗ done agSend0 c)
            ∗ (anyPts (pbRows (p1 c)) c ∗ anyPts (pbRows (p2 c)) c ∗ anyPts (pbRows (p3 c)) c) ∗ redPts c sh0 (RBX X c))
          -∗ Φ ⟨⟩)
        -∗ runs c (call11 c (k0_pay32 (cube (redV (RBX X (p1 c)))))) Φ) := by
  rw [runs, call11, k0_part11_eq_skeleton]
  unfold k0_part11_skel
  simp only [Prog.lift, Prog.bind_op, Prog.bind_ret, Prog.pure_eq_ret]
  iintro ⟨#HC, HO, Ho, Hw0, Hw1, Hw2, Hw3⟩ HΦ
  iapply (out_store c f (out3 X c) (out4 X c) rfl) $$ Ho; iintro Ho
  iapply (wait_at X K c rsSend0 le_rsSend0 (anyPts (pbRows (p1 c)) c) (pay_rsSend0 (PBX X) (RBX X) c) 0 (mayWait_zero c _)) $$ [HO Hw0]
  · isplitr; · iexact HC
    isplitl [HO] <;> iassumption
  iintro ⟨HO, Hd0, Hs0⟩
  iapply (wait_at X K c rsSend1 le_rsSend1 (anyPts (pbRows (p2 c)) c) (pay_rsSend1 (PBX X) (RBX X) c) 0 (mayWait_zero c _)) $$ [HO Hw1]
  · isplitr; · iexact HC
    isplitl [HO] <;> iassumption
  iintro ⟨HO, Hd1, Hs1⟩
  iapply (wait_at X K c rsSend2 le_rsSend2 (anyPts (pbRows (p3 c)) c) (pay_rsSend2 (PBX X) (RBX X) c) 0 (mayWait_zero c _)) $$ [HO Hw2]
  · isplitr; · iexact HC
    isplitl [HO] <;> iassumption
  iintro ⟨HO, Hd2, Hs2⟩
  iapply (wait_at X K c agSend0 le_agSend0 (redPts c sh0 (RBX X c)) (pay_agSend0 (PBX X) (RBX X) c) 0 (mayWait_zero c _)) $$ [HO Hw3]
  · isplitr; · iexact HC
    isplitl [HO] <;> iassumption
  iintro ⟨HO, Hd3, Hs3⟩
  rw [runs, wp_ret]; imodintro
  iapply HΦ
  isplitl [HO]; · iexact HO
  isplitl [Ho]; · iexact Ho
  isplitl [Hd0 Hd1 Hd2 Hd3]
  · isplitl [Hd0]; · iexact Hd0
    isplitl [Hd1]; · iexact Hd1
    isplitl [Hd2] <;> iassumption
  isplitl [Hs0 Hs1 Hs2]
  · isplitl [Hs0]; · iexact Hs0
    isplitl [Hs1] <;> iassumption
  iexact Hs3

end Cert.KernelIdealProof
-- ==== Proof.KernelIdeal.Body.lean ====
/-
  One device's whole run: the parts in turn, and what it leaves.
-/
module

public import proofs.«01_k».proof.Proof.KernelIdeal.Parts2

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

variable (X : Dev nD → Ins F) (K : GSem nD τ sig → ℕ)

/-- The device's own marks, in the order of its semaphores. -/
abbrev marks (r : ℕ) (c : Dev nD) : sProp 𝕄 :=
  iprop(atPos ER (dcell rsSend0 c) r ∅ 0 ∗ atPos ER (dcell rsSend1 c) r ∅ 0 ∗ atPos ER (dcell rsSend2 c) r ∅ 0 ∗ atPos ER (dcell rsRecv0 c) r ∅ 0 ∗ atPos ER (dcell rsRecv1 c) r ∅ 0 ∗ atPos ER (dcell rsRecv2 c) r ∅ 0 ∗ atPos ER (dcell agSend0 c) r ∅ 0 ∗ atPos ER (dcell agSend1 c) r ∅ 0 ∗ atPos ER (dcell agSend2 c) r ∅ 0 ∗ atPos ER (dcell agRecv0 c) r ∅ 0 ∗ atPos ER (dcell agRecv1 c) r ∅ 0 ∗ atPos ER (dcell agRecv2 c) r ∅ 0)
/-- Its counters at zero. -/
abbrev zeros (c : Dev nD) : sProp 𝕄 :=
  iprop(semVal (dcell rsSend0 c) 0 ∗ semVal (dcell rsSend1 c) 0 ∗ semVal (dcell rsSend2 c) 0 ∗ semVal (dcell rsRecv0 c) 0 ∗ semVal (dcell rsRecv1 c) 0 ∗ semVal (dcell rsRecv2 c) 0 ∗ semVal (dcell agSend0 c) 0 ∗ semVal (dcell agSend1 c) 0 ∗ semVal (dcell agSend2 c) 0 ∗ semVal (dcell agRecv0 c) 0 ∗ semVal (dcell agRecv1 c) 0 ∗ semVal (dcell agRecv2 c) 0)
/-- The marks it pays with: its neighbours' barrier, its own sends, its neighbours' receives. -/
abbrev toks (c : Dev nD) : sProp 𝕄 :=
  iprop((dutyTok ER (barCell (p1 c)) 0 0 ∗ dutyTok ER (barCell (p2 c)) 0 1 ∗ dutyTok ER (barCell (p3 c)) 0 2)
    ∗ (dutyTok ER (dcell rsSend0 c) 0 0 ∗ dutyTok ER (dcell rsSend1 c) 0 0 ∗ dutyTok ER (dcell rsSend2 c) 0 0)
    ∗ (dutyTok ER (dcell rsRecv0 (p1 c)) 0 0 ∗ dutyTok ER (dcell rsRecv1 (p2 c)) 0 0 ∗ dutyTok ER (dcell rsRecv2 (p3 c)) 0 0)
    ∗ (dutyTok ER (dcell agSend0 c) 0 0 ∗ dutyTok ER (dcell agSend1 c) 0 0 ∗ dutyTok ER (dcell agSend2 c) 0 0)
    ∗ (dutyTok ER (dcell agRecv0 (p1 c)) 0 0 ∗ dutyTok ER (dcell agRecv1 (p2 c)) 0 0 ∗ dutyTok ER (dcell agRecv2 (p3 c)) 0 0))
/-- What it waits for that others pay. -/
abbrev creds (c : Dev nD) : sProp 𝕄 :=
  iprop(cred (tallyAt (barCell c) () 3)
    ∗ (cred (tallyAt (dcell rsRecv0 c) () N) ∗ cred (tallyAt (dcell rsRecv1 c) () N) ∗ cred (tallyAt (dcell rsRecv2 c) () N))
    ∗ (cred (tallyAt (dcell agRecv0 c) () N) ∗ cred (tallyAt (dcell agRecv1 c) () N) ∗ cred (tallyAt (dcell agRecv2 c) () N)))
/-- The five scratch buffers, whole at some contents. -/
abbrev scratch (c : Dev nD) : sProp 𝕄 :=
  iprop((∃ f, (c : Thread nD τ).loc cc0_scratch0 ↦{fullShare} f) ∗ (∃ f, (c : Thread nD τ).loc cc0_scratch1 ↦{fullShare} f)
    ∗ (∃ f, (c : Thread nD τ).loc cc0_scratch2 ↦{fullShare} f) ∗ (∃ f, (c : Thread nD τ).loc cc0_scratch3 ↦{fullShare} f)
    ∗ (∃ f, (c : Thread nD τ).loc cc0_scratch4 ↦{fullShare} f))
abbrev ops (c : Dev nD) : sProp 𝕄 := iprop(ops1 X c ∗ (woM.view.loc (c : Thread nD τ) ↦{fullShare} (X c).wo))

/-- A cell that this device has waited out gives its counter back, at zero. -/
theorem close_cell (g : GSem nD τ sig) : iprop(cellInv ER (kRd (PBX X) (RBX X)) (K g) g ∗ atPos ER g 1 ∅ 0) ⊢ iprop(|={Set.univ}=> semVal g 0) :=
  Rounds.cell_close ER (kRd (PBX X) (RBX X)) (Set.mem_univ _) id (R := 1) (fun r hr => duties_later (PBX X) (RBX X) g r hr)
theorem close (c : Dev nD) (s : DmaSem sig) (hs : 6 ≤ s.val) : iprop(cx X K c ∗ done s c) ⊢ iprop(|={Set.univ}=> semVal (dcell s c) 0) := by
  iintro ⟨HC, Hd⟩
  iapply (close_cell X K (dcell s c))
  isplitl [HC]; · iapply (ctx_dma (PBX X) (RBX X) K c c s hs) $$ HC
  iexact Hd
theorem close_bar (c : Dev nD) : iprop(cx X K c ∗ atPos ER (barCell c) 1 ∅ 0) ⊢ iprop(|={Set.univ}=> semVal (barCell c) 0) := by
  iintro ⟨HC, Hd⟩
  iapply (close_cell X K (barCell c))
  isplitl [HC]; · iapply (ctx_bar (PBX X) (RBX X) K c c) $$ HC
  iexact Hd

abbrev callAll := cc0_body (F := F) xM (Memref.isWhole_whole _) wqM (Memref.isWhole_whole _) woM (Memref.isWhole_whole _) wkM (Memref.isWhole_whole _) wvM (Memref.isWhole_whole _) outM (Memref.isWhole_whole _) partM (Memref.isWhole_whole _) pbM (Memref.isWhole_whole _) rsM (Memref.isWhole_whole _) redM (Memref.isWhole_whole _) agM (Memref.isWhole_whole _) cc0_scratch5 cc0_scratch6 cc0_scratch7 cc0_scratch8

/-- One device's run. -/
theorem body_runs (c : Dev nD) (f : outM.view.ty.Contents (Elt F)) (Φ : PUnit → sProp 𝕄) :
    iprop(cx X K c ∗ owesAny c (O₀ c) ∗ toks c ∗ creds c ∗ atPos ER (barCell c) 0 ∅ 0 ∗ marks 0 c ∗ scratch c ∗ ops X c
        ∗ (outM.view.loc (c : Thread nD τ) ↦{fullShare} f))
      ⊢ iprop(((owesAny c 0 ∗ semVal (barCell c) 0 ∗ zeros c ∗ scratch c ∗ ops X c ∗ outAt c f (out4 X c)) -∗ Φ ⟨⟩) -∗ runs c callAll Φ) := by
  rw [runs, callAll, cc0_body_eq_skeleton]
  unfold cc0_body_skel
  simp only [wp_bind]
  iintro ⟨#HC, HO, ⟨⟨Tb1, Tb2, Tb3⟩, ⟨TS0, TS1, TS2⟩, ⟨TR0, TR1, TR2⟩, ⟨Ts0, Ts1, Ts2⟩, ⟨Tr0, Tr1, Tr2⟩⟩,
    ⟨Cb, ⟨CR0, CR1, CR2⟩, ⟨Cr0, Cr1, Cr2⟩⟩, Ab, ⟨AS0, AS1, AS2, AR0, AR1, AR2, As0, As1, As2, Ar0, Ar1, Ar2⟩,
    ⟨⟨%g0, B0⟩, ⟨%g1, B1⟩, B2, ⟨%g3, B3⟩, B4⟩, ⟨Hops, Hwo⟩, Ho⟩ HΦ
  ihave Hrs := (rs_split c) $$ B2
  ihave Hag := (ag_split c) $$ B4
  iapply (part1_runs X K c) $$ [HO Tb1 Tb2 Tb3 Cb Ab Hrs Hag Hops]
  · isplitr; · iexact HC
    isplitr [Hops]
    · isplitl [HO]; · iexact HO
      isplitl [Tb1]; · iexact Tb1
      isplitl [Tb2]; · iexact Tb2
      isplitl [Tb3]; · iexact Tb3
      isplitl [Cb]; · iexact Cb
      isplitl [Ab]; · iexact Ab
      isplitl [Hrs] <;> iassumption
    · iexact Hops
  iintro ⟨⟨HO, Ab, P0, P1, P2⟩, Hops⟩
  unfold barPay
  icases P0 with ⟨G2, g2, Q2, q2⟩
  icases P1 with ⟨G1, g1, Q1, q1⟩
  icases P2 with ⟨G0, g0, Q0, q0⟩
  iapply (part2_runs X c) $$ Hwo; iintro Hwo
  iapply (part3_runs c)
  iapply (part4_runs c)
  iapply (part5_runs X K c g0 g1) $$ [HO B0 B1 TS0 TR0 G0 Q0]
  · isplitr; · iexact HC
    isplitl [B0]; · iexact B0
    isplitl [B1]; · iexact B1
    isplitl [HO]; · iexact HO
    isplitl [G0]; · iexact G0
    isplitl [TS0]; · iexact TS0
    isplitl [TR0] <;> iassumption
  iintro ⟨B0, W0, W2, W3, CS0, HO⟩
  iapply (part6_runs X K c _ _ _ rfl) $$ [HO W2 W3 TS1 TR1 G1 Q1 TS2 TR2 G2 Q2]
  · isplitr; · iexact HC
    isplitl [W2]; · iexact W2
    isplitl [W3]; · iexact W3
    isplitl [HO]; · iexact HO
    isplitl [TS1 TR1 G1 Q1]
    · isplitl [G1]; · iexact G1
      isplitl [TS1]; · iexact TS1
      isplitl [TR1] <;> iassumption
    · isplitl [G2]; · iexact G2
      isplitl [TS2]; · iexact TS2
      isplitl [TR2] <;> iassumption
  iintro ⟨CS1, CS2, HO⟩
  iapply (part7_runs X K c) $$ [HO B0 CR0 AR0 CR1 AR1 CR2 AR2]
  · isplitr; · iexact HC
    isplitl [HO]; · iexact HO
    isplitl [B0]; · iexact B0
    isplitl [CR0 AR0]; · isplitl [CR0] <;> iassumption
    isplitl [CR1 AR1]; · isplitl [CR1] <;> iassumption
    isplitl [CR2] <;> iassumption
  iintro ⟨HO, B0, ⟨DR0, DR1, DR2⟩, ⟨L0, L1, L2⟩⟩
  iapply (part8_runs X K c f g3) $$ [HO Ho B3 Ts0 Tr0 g0 q0 Ts1 Tr1 g1 q1]
  · isplitr; · iexact HC
    isplitl [HO]; · iexact HO
    isplitl [Ho]; · iexact Ho
    isplitl [B3]; · iexact B3
    isplitl [Ts0 Tr0 g0 q0]
    · isplitl [g0]; · iexact g0
      isplitl [Ts0]; · iexact Ts0
      isplitl [Tr0] <;> iassumption
    · isplitl [g1]; · iexact g1
      isplitl [Ts1]; · iexact Ts1
      isplitl [Tr1] <;> iassumption
  iintro ⟨HO, Ho, M2, Cs0, Cs1⟩
  iapply (part9_runs X K c f) $$ [HO Ho M2 Ts2 Tr2 g2 q2 Cr0 Ar0]
  · isplitr; · iexact HC
    isplitl [HO]; · iexact HO
    isplitl [Ho]; · iexact Ho
    isplitl [M2]; · iexact M2
    isplitl [Ts2 Tr2 g2 q2]
    · isplitl [g2]; · iexact g2
      isplitl [Ts2]; · iexact Ts2
      isplitl [Tr2] <;> iassumption
    · isplitl [Cr0] <;> iassumption
  iintro ⟨HO, Ho, Cs2, Dr0, l0⟩
  iapply (part10_runs X K c f) $$ [HO Ho Cr1 Ar1 Cr2 Ar2]
  · isplitr; · iexact HC
    isplitl [HO]; · iexact HO
    isplitl [Ho]; · iexact Ho
    isplitl [Cr1 Ar1]; · isplitl [Cr1] <;> iassumption
    isplitl [Cr2] <;> iassumption
  iintro ⟨HO, Ho, ⟨Dr1, Dr2⟩, ⟨l1, l2⟩⟩
  iapply (part11_runs X K c f) $$ [HO Ho CS0 AS0 CS1 AS1 CS2 AS2 Cs0 As0]
  · isplitr; · iexact HC
    isplitl [HO]; · iexact HO
    isplitl [Ho]; · iexact Ho
    isplitl [CS0 AS0]; · isplitl [CS0] <;> iassumption
    isplitl [CS1 AS1]; · isplitl [CS1] <;> iassumption
    isplitl [CS2 AS2]; · isplitl [CS2] <;> iassumption
    isplitl [Cs0] <;> iassumption
  iintro ⟨HO, Ho, ⟨DS0, DS1, DS2, Ds0⟩, ⟨V1, V2, V3⟩, M0⟩
  simp only [Prog.lift, Prog.bind_op, Prog.bind_ret, Prog.pure_eq_ret]
  iapply (wait_at X K c agSend1 le_agSend1 (redPts c sh1 (RBX X c)) (pay_agSend1 (PBX X) (RBX X) c) 0 (mayWait_zero c _)) $$ [HO Cs1 As1]
  · isplitr; · iexact HC
    isplitl [HO]; · iexact HO
    isplitl [Cs1] <;> iassumption
  iintro ⟨HO, Ds1, M1⟩
  rw [runs, wp_ret]; imodintro
  iapply (wait_at X K c agSend2 le_agSend2 (redPts c sh2 (RBX X c)) (pay_agSend2 (PBX X) (RBX X) c) 0 (mayWait_zero c _)) $$ [HO Cs2 As2]
  · isplitr; · iexact HC
    isplitl [HO]; · iexact HO
    isplitl [Cs2] <;> iassumption
  iintro ⟨HO, Ds2, M2⟩
  rw [runs, wp_ret]; imodintro
  rw [wp_ret]
  imod (close_bar X K c) $$ [Ab] with Ab
  · isplitr <;> [iexact HC; iexact Ab]
  imod (close X K c rsSend0 le_rsSend0) $$ [DS0] with DS0
  · isplitr <;> [iexact HC; iexact DS0]
  imod (close X K c rsSend1 le_rsSend1) $$ [DS1] with DS1
  · isplitr <;> [iexact HC; iexact DS1]
  imod (close X K c rsSend2 le_rsSend2) $$ [DS2] with DS2
  · isplitr <;> [iexact HC; iexact DS2]
  imod (close X K c rsRecv0 le_rsRecv0) $$ [DR0] with DR0
  · isplitr <;> [iexact HC; iexact DR0]
  imod (close X K c rsRecv1 le_rsRecv1) $$ [DR1] with DR1
  · isplitr <;> [iexact HC; iexact DR1]
  imod (close X K c rsRecv2 le_rsRecv2) $$ [DR2] with DR2
  · isplitr <;> [iexact HC; iexact DR2]
  imod (close X K c agSend0 le_agSend0) $$ [Ds0] with Ds0
  · isplitr <;> [iexact HC; iexact Ds0]
  imod (close X K c agSend1 le_agSend1) $$ [Ds1] with Ds1
  · isplitr <;> [iexact HC; iexact Ds1]
  imod (close X K c agSend2 le_agSend2) $$ [Ds2] with Ds2
  · isplitr <;> [iexact HC; iexact Ds2]
  imod (close X K c agRecv0 le_agRecv0) $$ [Dr0] with Dr0
  · isplitr <;> [iexact HC; iexact Dr0]
  imod (close X K c agRecv1 le_agRecv1) $$ [Dr1] with Dr1
  · isplitr <;> [iexact HC; iexact Dr1]
  imod (close X K c agRecv2 le_agRecv2) $$ [Dr2] with Dr2
  · isplitr <;> [iexact HC; iexact Dr2]
  imodintro
  iapply HΦ
  isplitl [HO]; · iexact HO
  isplitl [Ab]; · iexact Ab
  isplitl [DS0 DS1 DS2 DR0 DR1 DR2 Ds0 Ds1 Ds2 Dr0 Dr1 Dr2]
  · isplitl [DS0]; · iexact DS0
    isplitl [DS1]; · iexact DS1
    isplitl [DS2]; · iexact DS2
    isplitl [DR0]; · iexact DR0
    isplitl [DR1]; · iexact DR1
    isplitl [DR2]; · iexact DR2
    isplitl [Ds0]; · iexact Ds0
    isplitl [Ds1]; · iexact Ds1
    isplitl [Ds2]; · iexact Ds2
    isplitl [Dr0]; · iexact Dr0
    isplitl [Dr1]; · iexact Dr1
    iexact Dr2
  isplitr [Hops Hwo Ho]
  · isplitl [B0]; · iexists _; iexact B0
    isplitl [W0 V1 V2 V3]
    · iapply (pb_join c)
      isplitl [W0]; · iexists _; iexact W0
      isplitl [V1]; · iexact V1
      isplitl [V2] <;> iassumption
    isplitl [L0 L1 L2]
    · iapply (rs_join c)
      isplitl [L0]; · iexists _; iexact L0
      isplitl [L1]; · iexists _; iexact L1
      iexists _; iexact L2
    isplitl [M0 M1 M2]
    · iexists _; iapply (red_join c (RBX X c))
      isplitl [M0]; · iexact M0
      isplitl [M1] <;> iassumption
    · iapply (ag_join c)
      isplitl [l0]; · iexists _; iexact l0
      isplitl [l1]; · iexists _; iexact l1
      iexists _; iexact l2
  isplitr [Ho]
  · isplitl [Hops] <;> iassumption
  iexact Ho

end Cert.KernelIdealProof
-- ==== Proof.KernelIdeal.Region.lean ====
/-
  The kernel region: what its windows hold, and the body's obligation.
-/
module

public import proofs.«01_k».proof.Proof.KernelIdeal.Body
public import proofs.«01_k».proof.Proof.Gen.KernelIdeal.Points
public import proofs.«01_k».proof.Proof.Gen.KernelIdeal.Regions
public import Idealize.ShloMosaic.Lib.Pipeline.RegionTalk
public import Idealize.ShloMosaic.Lib.Pipeline.ValueKit

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The operands and the result -/

/-- Device `c`'s operands as the pipeline stages them. -/
def ins (c : Dev nD) : Ins F where
  x := ((cfg0.win 0).blk t0_0).view.read (Elt F) (V1 m c (Proc.devRef .tc main_arg0))
  wq := ((cfg0.win 1).blk t0_0).view.read (Elt F) (V1 m c (Proc.devRef .tc main_arg1))
  wo := ((cfg0.win 2).blk t0_0).view.read (Elt F) (V1 m c (Proc.devRef .tc main_arg4))
  wk := ((cfg0.win 3).blk t0_0).view.read (Elt F) (V1 m c (Proc.devRef .tc main_v9))
  wv := ((cfg0.win 4).blk t0_0).view.read (Elt F) (V1 m c (Proc.devRef .tc main_v14))

/-- The four row blocks cover the result. -/
theorem out_cover (X : Dev nD → Ins F) (c : Dev nD) (y : S1x256x1024.Idx) : ∃ p ∈ out4 X c, y ∈ p.1.set := by
  have h0 := k0_off3_eq c
  have h1 := k0_off4_eq c ⟨0, by decide⟩
  have h2 := k0_off4_eq c ⟨1, by decide⟩
  have h3 := k0_off4_eq c ⟨2, by decide⟩
  have y0 : (y 0).val < 1 := (y 0).isLt
  have y1 : (y 1).val < 256 := (y 1).isLt
  have y2 : (y 2).val < 1024 := (y 2).isLt
  have hc : c.val < 4 := c.isLt
  have key : ∀ (off : Fin 3 → ℕ) (inb) (e : ℕ), off = ![0, 64 * e, 0] → (y 1).val / 64 = e → y ∈ (Rect.unit (s := S1x256x1024) off S1x64x1024.size inb).set := by
    intro off inb e ho he
    subst ho
    rw [Rect.mem_set_unit]
    intro a
    fin_cases a
    · exact ⟨Nat.zero_le _, by show (y 0).val < 0 + 1; omega⟩
    · exact ⟨by show 64 * e ≤ (y 1).val; omega, by show (y 1).val < 64 * e + 64; omega⟩
    · exact ⟨Nat.zero_le _, by show (y 2).val < 0 + 1024; omega⟩
  have hd : (y 1).val / 64 = c.val ∨ (y 1).val / 64 = (c.val + 3 - 0) % 4 ∨ (y 1).val / 64 = (c.val + 3 - 1) % 4 ∨ (y 1).val / 64 = (c.val + 3 - 2) % 4 := by
    omega
  rcases hd with h | h | h | h
  · exact ⟨_, List.mem_cons_of_mem _ (List.mem_cons_of_mem _ (List.mem_cons_of_mem _ (List.mem_singleton_self _))), key _ (k0_off3_inb c) _ h0 h⟩
  · exact ⟨_, List.mem_cons_of_mem _ (List.mem_cons_of_mem _ List.mem_cons_self), key _ (k0_off4_inb c 0) _ h1 h⟩
  · exact ⟨_, List.mem_cons_of_mem _ List.mem_cons_self, key _ (k0_off4_inb c 1) _ h2 h⟩
  · exact ⟨_, List.mem_cons_self, key _ (k0_off4_inb c 2) _ h3 h⟩

/-- What device `c`'s result window holds after the body. -/
def outV (c : Dev nD) : S1x256x1024.Idx → Elt F .f32 :=
  outM.view.read (Elt F) (outM.view.writes (Elt F) (V1 m c (Proc.devRef .tc main_v15)) (out4 (ins m) c))

theorem outV_eq (c : Dev nD) (f : outM.view.ty.Contents (Elt F)) :
    outM.view.read (Elt F) (outM.view.writes (Elt F) f (out4 (ins m) c)) = outV m c :=
  View.read_writes_of_cover outM.view f outM.view _ _ (out_cover (ins m) c)

/-- The unscoped buffers after the region. -/
abbrev Vf (c : Dev nD) : Valuation τ sig (Elt F) := Function.update (V1 m c) (Proc.devRef .tc main_v15) (outV m c)

/-! ## The region's proof data -/

/-- Before the point: everything the talk starts from. -/
def Xk (c : Dev nD) : sProp 𝕄 :=
  iprop((∃ K : GSem nD τ sig → ℕ, cx (ins m) K c) ∗ toks c ∗ creds c ∗ atPos ER (barCell c) 0 ∅ 0 ∗ marks 0 c)
/-- What the launch keeps for it: its own cells not yet open. -/
def Tk (c : Dev nD) : sProp 𝕄 :=
  iprop((∃ K : GSem nD τ sig → ℕ, records (PBX (ins m)) (RBX (ins m)) K) ∗ (bigSep Finset.univ fun k : Fin 12 => openTok ER ((c : Thread nD τ), osem k))
    ∗ toks c ∗ creds c ∗ atPos ER (barCell c) 0 ∅ 0)
/-- What it leaves. -/
def Yk (c : Dev nD) : sProp 𝕄 := semVal (barCell c) 0

def dat0 (c : Dev nD) : Dat τ (Elt F) Unit ℕ UU ℕ cfg0 c where
  A w := V1 m c (Proc.devRef .tc (Pipeline.arrRef spec0 w))
  after w _ := match w with
    | ⟨0, _⟩ => (ins m c).x
    | ⟨1, _⟩ => (ins m c).wq
    | ⟨2, _⟩ => (ins m c).wo
    | ⟨3, _⟩ => (ins m c).wk
    | ⟨4, _⟩ => (ins m c).wv
    | ⟨5, _⟩ => outV m c
  Φ t := if t.val = 0 then iprop(Xk m c ∗ scratch c ∗ ∃ r, prngReg c r)
    else iprop(Yk c ∗ zeros c ∗ scratch c ∗ ∃ r, prngReg c r)
  q _ := fullShare
  owed t := if t.val = 0 then O₀ c else 0

abbrev pdats : (p : Fin 1) → (c : Dev nD) → Dat τ (Elt F) Unit ℕ UU ℕ (cfgs p) c
  | ⟨0, _⟩ => dat0 m

theorem owed_zero (c : Dev nD) : (dat0 m c).owed 0 = O₀ c := by
  show (if (0 : Fin (cfg0.N + 1)).val = 0 then O₀ c else 0) = O₀ c; exact if_pos rfl
theorem owed_first (c : Dev nD) : (dat0 m c).owed t0_0.castSucc = O₀ c := by
  show (if (t0_0.castSucc : Fin (cfg0.N + 1)).val = 0 then O₀ c else 0) = O₀ c; exact if_pos rfl
theorem owed_last (c : Dev nD) : (dat0 m c).owed (Fin.last _) = 0 := by
  show (if (Fin.last cfg0.N).val = 0 then O₀ c else 0) = 0
  rw [Fin.val_last, if_neg (by rw [show cfg0.N = 1 from N_0]; decide)]

theorem owesAt_intro (c : Dev nD) (t : Fin (cfg0.N + 1)) (O : CellTallies nD τ sig Unit) (h0 : (dat0 m c).owed t = O) :
    owesAny c O ⊢ ((dat0 m c).owesAt () t : sProp 𝕄) := by
  unfold Dat.owesAt Pipeline.owesWithin Dat.bound
  rw [h0, show (dat0 m c).recorded t = Set.univ from rfl]
  iintro ⟨%W, HO⟩; iexists W; isplitr; · ipureintro; exact fun _ _ => Or.inl trivial
  iexact HO
theorem owesAt_elim (c : Dev nD) (t : Fin (cfg0.N + 1)) (O : CellTallies nD τ sig Unit) (h0 : (dat0 m c).owed t = O) :
    ((dat0 m c).owesAt () t : sProp 𝕄) ⊢ owesAny c O := by
  unfold Dat.owesAt Pipeline.owesWithin
  rw [h0]
  iintro ⟨%W, -, HO⟩; iexists W; iexact HO

theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) ((c : Thread nD τ).loc b), ⌜f = Y⌝ ∗ (((c : Thread nD τ).loc b) ↦{fullShare} f)) := by
  unfold owns; simp only [Memref.view_whole, View.read_whole, View.set_whole]

theorem before0 (c : Dev nD) (d) : (dat0 m c).before 0 t0_0 d = (ins m c).x := by
  unfold Dat.before; rw [if_pos (fetch0_0 t0_0)]; rfl
theorem before1 (c : Dev nD) (d) : (dat0 m c).before 1 t0_0 d = (ins m c).wq := by
  unfold Dat.before; rw [if_pos (fetch0_1 t0_0)]; rfl
theorem before2 (c : Dev nD) (d) : (dat0 m c).before 2 t0_0 d = (ins m c).wo := by
  unfold Dat.before; rw [if_pos (fetch0_2 t0_0)]; rfl
theorem before3 (c : Dev nD) (d) : (dat0 m c).before 3 t0_0 d = (ins m c).wk := by
  unfold Dat.before; rw [if_pos (fetch0_3 t0_0)]; rfl
theorem before4 (c : Dev nD) (d) : (dat0 m c).before 4 t0_0 d = (ins m c).wv := by
  unfold Dat.before; rw [if_pos (fetch0_4 t0_0)]; rfl

theorem after0 (c : Dev nD) : (dat0 m c).after 0 t0_0 = (ins m c).x := rfl
theorem after1 (c : Dev nD) : (dat0 m c).after 1 t0_0 = (ins m c).wq := rfl
theorem after2 (c : Dev nD) : (dat0 m c).after 2 t0_0 = (ins m c).wo := rfl
theorem after3 (c : Dev nD) : (dat0 m c).after 3 t0_0 = (ins m c).wk := rfl
theorem after4 (c : Dev nD) : (dat0 m c).after 4 t0_0 = (ins m c).wv := rfl
theorem after5 (c : Dev nD) : (dat0 m c).after 5 t0_0 = outV m c := by dsimp only [dat0]
theorem left5 (c : Dev nD) (f : outM.view.ty.Contents (Elt F)) : outM.view.writes (Elt F) f (out4 (ins m) c) = outV m c := by
  have h := outV_eq m c f
  rw [View.read_whole] at h
  exact h

/-- The body, in the pipeline's terms. -/
theorem body_obligation (c : Dev nD) : BodyObligation (dat0 (F := F) m c) defs₀ 𝒱₀ () Set.univ := fun t => by
  obtain rfl := fin_N0 t
  rw [bigSep_W0, bigSep_W0]
  simp only [owns_whole_eq]
  rw [show (dat0 m c).Φ t0_0.castSucc = iprop(Xk m c ∗ scratch c ∗ ∃ r, prngReg c r) from rfl,
    show (dat0 m c).Φ t0_0.succ = iprop(Yk c ∗ zeros c ∗ scratch c ∗ ∃ r, prngReg c r) from rfl]
  unfold Xk Yk
  iintro ⟨⟨⟨⟨%K, HC⟩, Ht, Hc, Hb, Hm⟩, Hs, Hreg⟩, HO, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩⟩
  rw [before0] at hf0
  rw [before1] at hf1
  rw [before2] at hf2
  rw [before3] at hf3
  rw [before4] at hf4
  subst hf0 hf1 hf2 hf3 hf4
  ihave HO' := (owesAt_elim m c _ (O₀ c) (owed_first m c)) $$ HO
  iapply (body_runs (ins m) K c f5 _) $$ [HC HO' Ht Hc Hb Hm Hs H0 H1 H2 H3 H4 H5]
  · isplitl [HC]; · iexact HC
    isplitl [HO']; · iexact HO'
    isplitl [Ht]; · iexact Ht
    isplitl [Hc]; · iexact Hc
    isplitl [Hb]; · iexact Hb
    isplitl [Hm]; · iexact Hm
    isplitl [Hs]; · iexact Hs
    isplitr [H5]
    · isplitr [H2]
      · isplitl [H0]; · iexact H0
        isplitl [H1]; · iexact H1
        isplitl [H3]; · iexact H3
        iexact H4
      iexact H2
    iexact H5
  iintro ⟨HO, Hb, Hz, Hs, ⟨⟨H0, H1, H3, H4⟩, H2⟩, H5⟩
  isplitl [Hb Hz Hs Hreg]
  · isplitl [Hb]; · iexact Hb
    isplitl [Hz]; · iexact Hz
    isplitl [Hs]; · iexact Hs
    iexact Hreg
  isplitl [HO]
  · iapply (owesAt_intro m c t0_0.succ 0 (owed_last m c)) $$ HO
  isplitl [H0]
  · iexists (ins m c).x; isplitr; (· ipureintro; exact (after0 m c).symm); iexact H0
  isplitl [H1]
  · iexists (ins m c).wq; isplitr; (· ipureintro; exact (after1 m c).symm); iexact H1
  isplitl [H2]
  · iexists (ins m c).wo; isplitr; (· ipureintro; exact (after2 m c).symm); iexact H2
  isplitl [H3]
  · iexists (ins m c).wk; isplitr; (· ipureintro; exact (after3 m c).symm); iexact H3
  isplitl [H4]
  · iexists (ins m c).wv; isplitr; (· ipureintro; exact (after4 m c).symm); iexact H4
  iexists (outM.view.writes (Elt F) f5 (out4 (ins m) c)); isplitr
  · ipureintro; exact (left5 m c f5).trans (after5 m c).symm
  iexact H5

end Cert.KernelIdealProof
-- ==== Proof.KernelIdeal.Talk.lean ====
/-
  The kernel region's record among the program's segments.
-/
module

public import proofs.«01_k».proof.Proof.KernelIdeal.Region

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The own cells opened -/

theorem zeros_eq (c : Dev nD) : (Pipeline.ownSems0 osem c : sProp 𝕄) = zeros c :=
  bigSep_univ_eq_bigSepL [(0 : Fin 12), 1, 2, 3, 4, 5, 6, 7, 8, 9, 10, 11] (by decide) (by decide) _

theorem marks_eq (c : Dev nD) : (bigSep Finset.univ (fun k : Fin 12 => atPos ER ((c : Thread nD τ), osem k) 0 ∅ 0) : sProp 𝕄) = marks 0 c :=
  bigSep_univ_eq_bigSepL [(0 : Fin 12), 1, 2, 3, 4, 5, 6, 7, 8, 9, 10, 11] (by decide) (by decide) _

theorem sc_mem (c : Dev nD) (k : Fin 12) : (((c : Thread nD τ), osem k) : GSem nD τ sig) ∈ (barCells ∪ scCells : Finset (GSem nD τ sig)) :=
  Finset.mem_union_right _ (Finset.mem_map.mpr ⟨(c, k), Finset.mem_univ _, rfl⟩)

theorem open_one (K : GSem nD τ sig → ℕ) (PB : Dev nD → PBuf F) (RB : Dev nD → RBuf F) (c : Dev nD) (k : Fin 12) :
    iprop(records PB RB K ∗ (openTok ER ((c : Thread nD τ), osem k) ∗ semVal ((c : Thread nD τ), osem k) 0))
      ⊢ (|={Set.univ}=> (atPos ER ((c : Thread nD τ), osem k) 0 ∅ 0 ∗ reached ER ((c : Thread nD τ), osem k) 0) : sProp 𝕄) := by
  unfold records
  iintro ⟨⟨HI, -⟩, Ho, Hv⟩
  ihave HI' := (elem (sc_mem c k) (fun g => (cellInv ER (kRd PB RB) (K g) g : sProp 𝕄))) $$ HI
  iapply (Rounds.cell_open ER (kRd PB RB) (g := ((c : Thread nD τ), osem k)) (Set.mem_univ (K ((c : Thread nD τ), osem k))))
  isplitl [HI']; · iexact HI'
  isplitl [Ho] <;> iassumption

theorem open_all (K : GSem nD τ sig → ℕ) (PB : Dev nD → PBuf F) (RB : Dev nD → RBuf F) (c : Dev nD) :
    iprop(records PB RB K ∗ ((bigSep Finset.univ fun k : Fin 12 => openTok ER ((c : Thread nD τ), osem k)) ∗ Pipeline.ownSems0 osem c))
      ⊢ (|={Set.univ}=> (marks 0 c ∗ bigSep Finset.univ fun k : Fin 12 => reached ER ((c : Thread nD τ), osem k) 0) : sProp 𝕄) := by
  unfold Pipeline.ownSems0
  rw [← marks_eq, ← bigSep_sep', ← bigSep_sep']
  exact (bigSep_with_persistent fun k _ => open_one K PB RB c k).trans (bigSep_fupd _ _)

theorem hopen (c : Dev nD) : iprop(Tk m c ∗ Pipeline.ownSems0 osem c ∗ levAts L lv) ⊢ (|={Set.univ}=> Xk m c : sProp 𝕄) := by
  unfold Tk Xk
  iintro ⟨⟨⟨%K, #HR⟩, Ho, Ht, Hc, Hb⟩, Hz, #Hlev⟩
  imod (open_all K (PBX (ins m)) (RBX (ins m)) c) $$ [Ho Hz] with ⟨Hm, #Hr⟩
  · isplitr; · iexact HR
    isplitl [Ho] <;> iassumption
  imodintro
  isplitr
  · iexists K
    unfold cx ctx
    isplitr; · iexact HR
    isplitr; · iexact Hlev
    iexact Hr
  isplitl [Ht]; · iexact Ht
  isplitl [Hc]; · iexact Hc
  isplitl [Hb]; · iexact Hb
  iexact Hm

/-! ## Into and out of the region -/

theorem hin (c : Dev nD) : iprop(Pipeline.scopedRest (Pipeline.pin (pcfgs (F := F)) adm 0).spec c ∗ (∃ r, prngReg c r)
      ∗ StableHlo.held (c.tc : Thread nD τ) ∅ (V1 m c) ∗ Xk m c) ⊢ (pdats m 0 c).Φ 0 := by
  rw [show (pdats m 0 c).Φ 0 = iprop(Xk m c ∗ scratch c ∗ ∃ r, prngReg c r) from rfl]
  iintro ⟨Hs, Hp, -, HX⟩
  isplitl [HX]; · iexact HX
  isplitl [Hs]; · iapply (Entails.of_eq (scopedRest0_eq c)) $$ Hs
  iexact Hp

theorem held_empty (c : Dev nD) (V : Valuation τ sig (Elt F)) : (StableHlo.held (c.tc : Thread nD τ) ∅ V : sProp 𝕄) = BI.emp := by
  unfold StableHlo.held; exact BI.bigSep_empty

theorem hout (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vf m c) ∗ Pipeline.ownSems0 osem c ∗ Yk c) := by
  rw [show (pdats m 0 c).Φ (Fin.last _) = iprop(Yk c ∗ zeros c ∗ scratch c ∗ ∃ r, prngReg c r) from rfl, zeros_eq, held_empty]
  iintro ⟨HY, Hz, Hs, Hp⟩
  isplitl [Hs]; · iapply (Entails.of_eq (scopedRest0_eq c).symm) $$ Hs
  isplitl [Hp]; · iexact Hp
  isplitr; · iempintro
  isplitl [Hz]; · iexact Hz
  iexact HY

theorem share_eq (c : Dev nD) (w : Fin 6) : (dat0 m c).share w = fullShare := by unfold Dat.share; split <;> rfl

theorem arrAt_first (c : Dev nD) (w : Fin 6) : (dat0 m c).arrAt w 0 = V1 m c (Proc.devRef .tc (Pipeline.arrRef spec0 w)) := rfl

/-- The result's array after the region, whatever function the body leaves in its window. -/
theorem arrAt_of (c : Dev nD) (dat : Dat τ (Elt F) Unit ℕ UU ℕ cfg0 c) (G : S1x256x1024.Idx → Elt F .f32) (h : dat.after 5 t0_0 = G) :
    dat.arrAt 5 cfg0.N = G :=
  Dat.arrAt_eq_of_after_last dat 5 t0_0 (by decide +kernel) G (fun j => by rw [h]; rfl) (Memref.isWhole_whole _)

theorem arrAt_out (c : Dev nD) : (dat0 m c).arrAt 5 cfg0.N = outV m c := arrAt_of c (dat0 m c) (outV m c) (after5 m c)

theorem Vf_of (c : Dev nD) (r : Ref sig .tc) (h : r ∉ ([main_v15] : List (Ref sig .tc))) : Vf m c (Proc.devRef .tc r) = V1 m c (Proc.devRef .tc r) := by
  simp only [Vf, Function.update_of_ne (StableHlo.devRef_ne_of_ne (List.ne_of_not_mem_cons h) : (Proc.devRef .tc r : DevRef τ sig) ≠ Proc.devRef .tc main_v15)]
theorem Vf_out (c : Dev nD) : Vf m c (Proc.devRef .tc main_v15) = outV m c := Function.update_self ..

theorem arrAt_last (c : Dev nD) : ∀ w : Fin 6, (dat0 m c).arrAt w cfg0.N = Vf m c (Proc.devRef .tc (Pipeline.arrRef spec0 w))
  | 0 => ((dat0 m c).arrAt_in 0 rfl _).trans (Vf_of m c main_arg0 (by decide)).symm
  | 1 => ((dat0 m c).arrAt_in 1 rfl _).trans (Vf_of m c main_arg1 (by decide)).symm
  | 2 => ((dat0 m c).arrAt_in 2 rfl _).trans (Vf_of m c main_arg4 (by decide)).symm
  | 3 => ((dat0 m c).arrAt_in 3 rfl _).trans (Vf_of m c main_v9 (by decide)).symm
  | 4 => ((dat0 m c).arrAt_in 4 rfl _).trans (Vf_of m c main_v14 (by decide)).symm
  | 5 => (arrAt_out m c).trans (Vf_out m c).symm

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem stg_lv : ∀ (w : Fin 6) (s : Fin (spec0 w).nbuf), lvOf (.dma ((spec0 w).sem s)) = 0 := by decide

theorem cutD (c : Dev nD) (t : Fin (cfg0.N + 1)) (g : GSem nD τ sig) (i : Unit) (h : 0 < (dat0 (F := F) m c).owed t g i) :
    i ∈ L g ∧ (0 : ℕ) < lv g i := by
  have e : (dat0 (F := F) m c).owed t = if t.val = 0 then O₀ c else 0 := rfl
  rw [e] at h
  split at h
  · have hp := O₀_pos c h
    refine ⟨?_, hp.2⟩
    unfold L
    rw [if_pos hp.1]
    exact Finset.mem_singleton_self _
  · exact absurd h (Nat.lt_irrefl 0)

/-- The unscoped buffers that are no window's array. -/
abbrev restRefs : Finset (DevRef τ sig) := Pipeline.ucRefs τ sig \ Pipeline.arrRefs (τ := τ) spec0

theorem hrest (c : Dev nD) : ∀ b ∈ restRefs \ (∅ : Finset (DevRef τ sig)), Vf m c b = V1 m c b := by
  intro b hb
  rw [Finset.sdiff_empty] at hb
  refine Function.update_of_ne ?_ _ _
  rintro rfl
  exact (Finset.mem_sdiff.mp hb).2 (Finset.mem_map.mpr ⟨main_v15, by decide, rfl⟩)

set_option backward.isDefEq.respectTransparency.types false in
/-- The region's record. -/
def reg : Pipeline.RegionSeg (pcfgs (F := F)) adm (pdats m) () defs₀ 𝒱₀ L lv 0 :=
  Pipeline.RegionSeg.ofTalk (pcfgs (F := F)) adm (pdats m) () defs₀ 𝒱₀ L lv 0 osem (by decide : Pipeline.OwnSemFacts spec0 osem)
    ∅ restRefs (Finset.empty_subset _) kitP rfl (fun c => (body_obligation m c).loose)
    (fun _ => 0) O₀ (fun c => (owed_zero m c).trans (zero_add _).symm) (owed_last m) (fun _ => rfl) (share_eq m)
    (V1 m) (Vf m) (hrest m)
    (Tk m) Yk (Xk m) Yk (hopen m) (hin m) (hout m)
    (fun c => by iintro H; imodintro; iexact H)
    (fun _ => 0)
    ⟨fun c w s => by rw [L_tc]; exact Finset.mem_singleton_self _, fun c w s => le_of_eq (stg_lv w s), fun c t g i h => cutD m c t g i h⟩
    (fun _ => iprop(emp))
    (arrAt_first m) (arrAt_last m)

theorem arr_sub : Pipeline.arrRefs (τ := τ) spec0 ⊆ Pipeline.ucRefs τ sig := by decide

/-- What rides beside the unscoped buffers before the region, and after it. -/
abbrev E0 (c : Dev nD) : sProp 𝕄 := iprop((∃ r, prngReg c r) ∗ Tk m c ∗ owesAny c (O₀ c))
abbrev E1 (c : Dev nD) : sProp 𝕄 := iprop(Yk c ∗ owesAny c 0)

theorem reg_pre (c : Dev nD) : iprop(StableHlo.held (c : Thread nD τ) (Pipeline.ucRefs τ sig) (V1 m c) ∗ E0 m c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) restRefs (V1 m c) ∗ emp) ∗ Tk m c ∗ ∃ Wd, owes (c : Thread nD τ) (0 + O₀ c) Wd)
  rw [StableHlo.held_sub_split (c.tc : Thread nD τ) arr_sub (V1 m c), zero_add]
  iintro ⟨⟨Ha, Hr⟩, Hp, HT, HO⟩
  isplitl [Ha]; · iexact Ha
  isplitl [Hp]; · iexact Hp
  isplitl [Hr]
  · isplitl [Hr]; · iexact Hr
    iempintro
  isplitl [HT]; · iexact HT
  iexact HO

theorem reg_post (c : Dev nD) : (reg m).post c ⊢ iprop(StableHlo.held (c : Thread nD τ) (Pipeline.ucRefs τ sig) (Vf m c) ∗ E1 c) := by
  show iprop(StableHlo.held (c.tc : Thread nD τ) (Pipeline.arrRefs (τ := τ) spec0) (Vf m c) ∗ (∃ r, prngReg c r)
    ∗ (StableHlo.held (c.tc : Thread nD τ) restRefs (Vf m c) ∗ emp) ∗ Yk c ∗ ∃ Wd, owes (c : Thread nD τ) (0 : CellTallies nD τ sig Unit) Wd) ⊢ _
  rw [StableHlo.held_sub_split (c.tc : Thread nD τ) arr_sub (Vf m c)]
  iintro ⟨Ha, -, ⟨Hr, -⟩, HY, HO⟩
  isplitl [Ha Hr]; · isplitl [Ha] <;> iassumption
  isplitl [HY]; · iexact HY
  iexact HO

end Cert.KernelIdealProof
-- ==== Proof.KernelIdeal.Run.lean ====
/-
  The launch: every cell funded, the marks and the credit dealt, and the whole program's run.
-/
module

public import proofs.«01_k».proof.Proof.KernelIdeal.Talk

@[expose] public section

noncomputable section

namespace Cert.KernelIdealProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

theorem pair (Φ Ψ : Dev nD → sProp 𝕄) : iprop(bigSep Finset.univ Φ ∗ bigSep Finset.univ Ψ) ⊢ bigSep Finset.univ fun c => iprop(Φ c ∗ Ψ c) :=
  Entails.of_eq (bigSep_sep' _ _ _).symm
theorem unpair (Φ Ψ : Dev nD → sProp 𝕄) : (bigSep Finset.univ fun c => iprop(Φ c ∗ Ψ c)) ⊢ iprop(bigSep Finset.univ Φ ∗ bigSep Finset.univ Ψ) :=
  Entails.of_eq (bigSep_sep' _ _ _)

/-! ## The marks each device pays with -/

/-- Whose cell each of a device's fifteen marks pays, -/
def shf : Fin 15 → Dev nD → Dev nD := ![p1, p2, p3, id, id, id, p1, p2, p3, id, id, id, p1, p2, p3]
/-- which of that device's cells it is, -/
def tsem : Fin 15 → SemLoc sig :=
  ![.reg barS, .reg barS, .reg barS, .dma rsSend0, .dma rsSend1, .dma rsSend2, .dma rsRecv0, .dma rsRecv1, .dma rsRecv2,
    .dma agSend0, .dma agSend1, .dma agSend2, .dma agRecv0, .dma agRecv1, .dma agRecv2]
/-- and which duty of the cell's round. -/
def tduty : Fin 15 → Fin 3 := ![0, 1, 2, 0, 0, 0, 0, 0, 0, 0, 0, 0, 0, 0, 0]
theorem tk_inj : Function.Injective (fun k : Fin 15 => (tsem k, tduty k)) := by decide
theorem shf_inj : ∀ k, Function.Injective (shf k) := by decide

def talkToks : Finset (GSem nD τ sig × ℕ × Fin 3) :=
  Finset.univ.map ⟨fun ck : Dev nD × Fin 15 => (((shf ck.2 ck.1 : Thread nD τ), tsem ck.2), 0, tduty ck.2), fun a b h => by
    have hk : a.2 = b.2 := tk_inj (Prod.ext (congrArg (fun t : GSem nD τ sig × ℕ × Fin 3 => t.1.2) h) (congrArg (fun t : GSem nD τ sig × ℕ × Fin 3 => t.2.2) h))
    have hd : shf a.2 a.1 = shf b.2 b.1 := congrArg (fun t : GSem nD τ sig × ℕ × Fin 3 => t.1.1.1) h
    rw [hk] at hd
    exact Prod.ext (shf_inj _ hd) hk⟩

theorem toks_one (c : Dev nD) : (bigSep Finset.univ (fun k : Fin 15 => dutyTok ER ((shf k c : Thread nD τ), tsem k) 0 (tduty k)) : sProp 𝕄) ⊢ toks c := by
  rw [bigSep_univ_eq_bigSepL [(0 : Fin 15), 1, 2, 3, 4, 5, 6, 7, 8, 9, 10, 11, 12, 13, 14] (by decide) (by decide)]
  show iprop(dutyTok ER (barCell (p1 c)) 0 0 ∗ dutyTok ER (barCell (p2 c)) 0 1 ∗ dutyTok ER (barCell (p3 c)) 0 2
    ∗ dutyTok ER (dcell rsSend0 c) 0 0 ∗ dutyTok ER (dcell rsSend1 c) 0 0 ∗ dutyTok ER (dcell rsSend2 c) 0 0
    ∗ dutyTok ER (dcell rsRecv0 (p1 c)) 0 0 ∗ dutyTok ER (dcell rsRecv1 (p2 c)) 0 0 ∗ dutyTok ER (dcell rsRecv2 (p3 c)) 0 0
    ∗ dutyTok ER (dcell agSend0 c) 0 0 ∗ dutyTok ER (dcell agSend1 c) 0 0 ∗ dutyTok ER (dcell agSend2 c) 0 0
    ∗ dutyTok ER (dcell agRecv0 (p1 c)) 0 0 ∗ dutyTok ER (dcell agRecv1 (p2 c)) 0 0 ∗ dutyTok ER (dcell agRecv2 (p3 c)) 0 0) ⊢ _
  iintro ⟨B1, B2, B3, S1, S2, S3, R1, R2, R3, T1, T2, T3, U1, U2, U3⟩
  isplitl [B1 B2 B3]; · isplitl [B1]; · iexact B1
                        isplitl [B2] <;> iassumption
  isplitl [S1 S2 S3]; · isplitl [S1]; · iexact S1
                        isplitl [S2] <;> iassumption
  isplitl [R1 R2 R3]; · isplitl [R1]; · iexact R1
                        isplitl [R2] <;> iassumption
  isplitl [T1 T2 T3]; · isplitl [T1]; · iexact T1
                        isplitl [T2] <;> iassumption
  isplitl [U1]; · iexact U1
  isplitl [U2] <;> iassumption

theorem toks_all : (bigSep talkToks (fun x => dutyTok ER x.1 x.2.1 x.2.2) : sProp 𝕄) ⊢ bigSep Finset.univ fun c : Dev nD => toks c := by
  unfold talkToks
  rw [bigSep_map, bigSep_univ_prod]
  exact bigSep_mono fun c _ => toks_one c

/-! ## The launch's credit -/

theorem t_bar (c d : Dev nD) (n : ℕ) : (tallyAt (barCell d) () n : CellTallies nD τ sig Unit) (barCell c) () = if d = c then n else 0 := by
  rw [tallyAt_apply]
  by_cases h : d = c
  · subst h; rw [if_pos ⟨rfl, rfl⟩, if_pos rfl]
  · rw [if_neg (fun h' => h (congrArg (fun g : GSem nD τ sig => g.1.1) h'.1).symm), if_neg h]
theorem t_bar_dma (c d : Dev nD) (s : DmaSem sig) (n : ℕ) : (tallyAt (dcell s d) () n : CellTallies nD τ sig Unit) (barCell c) () = 0 := by
  rw [tallyAt_apply, if_neg]
  rintro ⟨h, -⟩
  have h2 : (SemLoc.reg barS : SemLoc sig) = .dma s := congrArg Prod.snd h
  cases h2
theorem t_dma_bar (c d : Dev nD) (s : DmaSem sig) (n : ℕ) : (tallyAt (barCell d) () n : CellTallies nD τ sig Unit) (dcell s c) () = 0 := by
  rw [tallyAt_apply, if_neg]
  rintro ⟨h, -⟩
  have h2 : (SemLoc.dma s : SemLoc sig) = .reg barS := congrArg Prod.snd h
  cases h2
theorem t_dma (c d : Dev nD) (s : DmaSem sig) (n : ℕ) : (tallyAt (dcell s d) () n : CellTallies nD τ sig Unit) (dcell s c) () = if d = c then n else 0 := by
  rw [tallyAt_apply]
  by_cases h : d = c
  · subst h; rw [if_pos ⟨rfl, rfl⟩, if_pos rfl]
  · rw [if_neg (fun h' => h (congrArg (fun g : GSem nD τ sig => g.1.1) h'.1).symm), if_neg h]
theorem t_dma_ne (c d : Dev nD) (s s' : DmaSem sig) (n : ℕ) (h : s ≠ s') : (tallyAt (dcell s d) () n : CellTallies nD τ sig Unit) (dcell s' c) () = 0 := by
  rw [tallyAt_apply, if_neg (fun h' => h (SemLoc.dma.inj (congrArg Prod.snd h'.1)).symm)]

theorem p1_iff (d c : Dev nD) : p1 d = c ↔ d = p3 c := by revert d c; decide
theorem p2_iff (d c : Dev nD) : p2 d = c ↔ d = p2 c := by revert d c; decide
theorem p3_iff (d c : Dev nD) : p3 d = c ↔ d = p1 c := by revert d c; decide

/-- A sum that one device alone contributes to. -/
theorem sum_one (e : Dev nD) (n : ℕ) : (∑ d : Dev nD, if d = e then n else 0) = n := by
  rw [Finset.sum_ite_eq' Finset.univ e fun _ => n, if_pos (Finset.mem_univ _)]

theorem owed_bar (c : Dev nD) : (∑ d : Dev nD, O₀ d (barCell c) ()) = 3 := by
  unfold O₀ owedRs owedAg
  simp only [Pi.add_apply, Finsupp.add_apply, t_bar_dma, t_bar, p1_iff, p2_iff, p3_iff, Nat.zero_add, Finset.sum_add_distrib, sum_one]

theorem owed_rs0 (c : Dev nD) : (∑ d : Dev nD, O₀ d (dcell rsRecv0 c) ()) = N := by
  unfold O₀ owedRs owedAg
  simp only [Pi.add_apply, Finsupp.add_apply, t_dma_bar, t_dma, t_dma_ne _ _ rsRecv1 rsRecv0 _ (by decide), t_dma_ne _ _ rsRecv2 rsRecv0 _ (by decide),
    t_dma_ne _ _ agRecv0 rsRecv0 _ (by decide), t_dma_ne _ _ agRecv1 rsRecv0 _ (by decide), t_dma_ne _ _ agRecv2 rsRecv0 _ (by decide),
    p1_iff, Nat.zero_add, Nat.add_zero, sum_one]
theorem owed_rs1 (c : Dev nD) : (∑ d : Dev nD, O₀ d (dcell rsRecv1 c) ()) = N := by
  unfold O₀ owedRs owedAg
  simp only [Pi.add_apply, Finsupp.add_apply, t_dma_bar, t_dma, t_dma_ne _ _ rsRecv0 rsRecv1 _ (by decide), t_dma_ne _ _ rsRecv2 rsRecv1 _ (by decide),
    t_dma_ne _ _ agRecv0 rsRecv1 _ (by decide), t_dma_ne _ _ agRecv1 rsRecv1 _ (by decide), t_dma_ne _ _ agRecv2 rsRecv1 _ (by decide),
    p2_iff, Nat.zero_add, Nat.add_zero, sum_one]
theorem owed_rs2 (c : Dev nD) : (∑ d : Dev nD, O₀ d (dcell rsRecv2 c) ()) = N := by
  unfold O₀ owedRs owedAg
  simp only [Pi.add_apply, Finsupp.add_apply, t_dma_bar, t_dma, t_dma_ne _ _ rsRecv0 rsRecv2 _ (by decide), t_dma_ne _ _ rsRecv1 rsRecv2 _ (by decide),
    t_dma_ne _ _ agRecv0 rsRecv2 _ (by decide), t_dma_ne _ _ agRecv1 rsRecv2 _ (by decide), t_dma_ne _ _ agRecv2 rsRecv2 _ (by decide),
    p3_iff, Nat.zero_add, Nat.add_zero, sum_one]
theorem owed_ag0 (c : Dev nD) : (∑ d : Dev nD, O₀ d (dcell agRecv0 c) ()) = N := by
  unfold O₀ owedRs owedAg
  simp only [Pi.add_apply, Finsupp.add_apply, t_dma_bar, t_dma, t_dma_ne _ _ rsRecv0 agRecv0 _ (by decide), t_dma_ne _ _ rsRecv1 agRecv0 _ (by decide),
    t_dma_ne _ _ rsRecv2 agRecv0 _ (by decide), t_dma_ne _ _ agRecv1 agRecv0 _ (by decide), t_dma_ne _ _ agRecv2 agRecv0 _ (by decide),
    p1_iff, Nat.zero_add, Nat.add_zero, sum_one]
theorem owed_ag1 (c : Dev nD) : (∑ d : Dev nD, O₀ d (dcell agRecv1 c) ()) = N := by
  unfold O₀ owedRs owedAg
  simp only [Pi.add_apply, Finsupp.add_apply, t_dma_bar, t_dma, t_dma_ne _ _ rsRecv0 agRecv1 _ (by decide), t_dma_ne _ _ rsRecv1 agRecv1 _ (by decide),
    t_dma_ne _ _ rsRecv2 agRecv1 _ (by decide), t_dma_ne _ _ agRecv0 agRecv1 _ (by decide), t_dma_ne _ _ agRecv2 agRecv1 _ (by decide),
    p2_iff, Nat.zero_add, Nat.add_zero, sum_one]
theorem owed_ag2 (c : Dev nD) : (∑ d : Dev nD, O₀ d (dcell agRecv2 c) ()) = N := by
  unfold O₀ owedRs owedAg
  simp only [Pi.add_apply, Finsupp.add_apply, t_dma_bar, t_dma, t_dma_ne _ _ rsRecv0 agRecv2 _ (by decide), t_dma_ne _ _ rsRecv1 agRecv2 _ (by decide),
    t_dma_ne _ _ rsRecv2 agRecv2 _ (by decide), t_dma_ne _ _ agRecv0 agRecv2 _ (by decide), t_dma_ne _ _ agRecv1 agRecv2 _ (by decide),
    p3_iff, Nat.zero_add, Nat.add_zero, sum_one]

theorem launch_at (g : GSem nD τ sig) (n : ℕ) (h : (∑ d : Dev nD, O₀ d g ()) = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The cells a device waits on that others pay. -/
def wsem : Fin 7 ↪ SemLoc sig :=
  ⟨![.reg barS, .dma rsRecv0, .dma rsRecv1, .dma rsRecv2, .dma agRecv0, .dma agRecv1, .dma agRecv2], by decide⟩

theorem creds_intro (c : Dev nD) : (Pipeline.launchCred O₀ c : sProp 𝕄) ⊢ creds c := by
  unfold Pipeline.launchCred
  refine (bigSep_subset (Finset.subset_univ (Finset.univ.map wsem))).trans ?_
  rw [bigSep_map, bigSep_univ_eq_bigSepL [(0 : Fin 7), 1, 2, 3, 4, 5, 6] (by decide) (by decide)]
  show iprop(cred (tallyOn (barCell c) (launchCredit (Pipeline.owing O₀) 0 (barCell c)))
    ∗ cred (tallyOn (dcell rsRecv0 c) (launchCredit (Pipeline.owing O₀) 0 (dcell rsRecv0 c)))
    ∗ cred (tallyOn (dcell rsRecv1 c) (launchCredit (Pipeline.owing O₀) 0 (dcell rsRecv1 c)))
    ∗ cred (tallyOn (dcell rsRecv2 c) (launchCredit (Pipeline.owing O₀) 0 (dcell rsRecv2 c)))
    ∗ cred (tallyOn (dcell agRecv0 c) (launchCredit (Pipeline.owing O₀) 0 (dcell agRecv0 c)))
    ∗ cred (tallyOn (dcell agRecv1 c) (launchCredit (Pipeline.owing O₀) 0 (dcell agRecv1 c)))
    ∗ cred (tallyOn (dcell agRecv2 c) (launchCredit (Pipeline.owing O₀) 0 (dcell agRecv2 c)))) ⊢ _
  rw [launch_at _ _ (owed_bar c), launch_at _ _ (owed_rs0 c), launch_at _ _ (owed_rs1 c), launch_at _ _ (owed_rs2 c),
    launch_at _ _ (owed_ag0 c), launch_at _ _ (owed_ag1 c), launch_at _ _ (owed_ag2 c)]
  iintro ⟨B, R0, R1, R2, A0, A1, A2⟩
  isplitl [B]; · iexact B
  isplitl [R0 R1 R2]; · isplitl [R0]; · iexact R0
                        isplitl [R1] <;> iassumption
  isplitl [A0]; · iexact A0
  isplitl [A1] <;> iassumption

/-! ## The launch's set-up -/

theorem disjoint_cells : Disjoint (barCells : Finset (GSem nD τ sig)) scCells := by
  rw [Finset.disjoint_left]
  rintro g h₁ h₂
  obtain ⟨c, -, rfl⟩ := Finset.mem_map.mp h₁
  obtain ⟨ck, -, h⟩ := Finset.mem_map.mp h₂
  exact osem_ne_bar ck.2 (congrArg Prod.snd h)

def u₀ : UU :=
  (initOf (Pipeline.cells cfgs cellOf_inj) (Pipeline.launchToks cfgs cellOf_inj), launchOf barCells scCells talkToks)

/-- All of a resource on device 0, until it is dealt. -/
def onZero (P : sProp 𝕄) (c : Dev nD) : sProp 𝕄 := if c = 0 then P else iprop(emp)
theorem bigSep_onZero (P : sProp 𝕄) : bigSep Finset.univ (onZero P) = P := by
  rw [bigSep_univ_at _ (0 : Dev nD), bigSep_congr (s := Finset.univ.erase (0 : Dev nD)) (Ψ := fun _ => (BI.emp : sProp 𝕄))
      fun c hc => by unfold onZero; rw [if_neg (Finset.ne_of_mem_erase hc)]; rfl, BI.bigSep_emp_const]
  unfold onZero; rw [if_pos rfl]
  exact BI.equiv_iff.mp sep_emp

def G : Dev nD → sProp 𝕄 := onZero (BI.own (ER (launchOf barCells scCells talkToks)))

theorem unscopedSems0_eq (c : Dev nD) : (unscopedSems0 c : sProp 𝕄) = semVal (barCell c) 0 := by
  unfold unscopedSems0
  rw [show (Finset.univ.filter fun s : SemLoc sig => ¬ s.isScoped .tc = true) = {.reg barS} from by decide, bigSep_singleton]

/-- What the funding leaves with device `c`, beside the records. -/
def linear (c : Dev nD) : sProp 𝕄 :=
  iprop(atPos ER (barCell c) 0 ∅ 0 ∗ (bigSep Finset.univ fun k : Fin 12 => openTok ER ((c : Thread nD τ), osem k)) ∗ toks c)
/-- The rest of its launch holdings. -/
def bundle (c : Dev nD) : sProp 𝕄 := iprop(creds c ∗ owes (c : Thread nD τ) (O₀ c) ∅ ∗ ∃ r, prngReg c r)

theorem E0_intro (K : GSem nD τ sig → ℕ) (c : Dev nD) :
    iprop(records (PBX (ins m)) (RBX (ins m)) K ∗ (linear c ∗ bundle c)) ⊢ E0 m c := by
  unfold linear bundle E0 Tk
  iintro ⟨#HR, ⟨Hb, Ho, Ht⟩, Hc, HO, Hp⟩
  isplitl [Hp]; · iexact Hp
  isplitr [HO]
  · isplitr; · iexists K; iexact HR
    isplitl [Ho]; · iexact Ho
    isplitl [Ht]; · iexact Ht
    isplitl [Hc] <;> iassumption
  · iexists ∅; iexact HO

theorem init (ρ : Dev nD → PrngReg) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E0 m) : sProp 𝕄) := by
  have hcore (c : Dev nD) : iprop(unscopedSems0 c ∗ owes (c : Thread nD τ) (O₀ c) ∅ ∗ Pipeline.launchCred O₀ c ∗ prngReg c (ρ c) ∗ G c)
      ⊢ (iprop(bundle c ∗ (semVal (barCell c) 0 ∗ G c)) : sProp 𝕄) := by
    rw [unscopedSems0_eq]
    unfold bundle
    iintro ⟨Hus, HO, Hcr, Hp, HG⟩
    isplitl [HO Hcr Hp]
    · isplitl [Hcr]; · iapply (creds_intro c) $$ Hcr
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hop : bigSep scCells (fun g => (openTok ER g : sProp 𝕄))
      ⊢ bigSep Finset.univ (fun c : Dev nD => bigSep Finset.univ fun k : Fin 12 => (openTok ER ((c : Thread nD τ), osem k) : sProp 𝕄)) :=
    Entails.of_eq (by rw [bigSep_map, bigSep_univ_prod]; rfl)
  iintro ⟨H, -⟩
  ihave H' := (show (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(bundle c ∗ (semVal (barCell c) 0 ∗ G c)) : sProp 𝕄) from bigSep_mono fun c _ => hcore c) $$ H
  ihave H2 := (unpair _ _) $$ H'; icases H2 with ⟨HB, H3⟩
  ihave H4 := (unpair _ _) $$ H3; icases H4 with ⟨Hv, HG⟩
  ihave Hu := (show bigSep Finset.univ (G (F := F)) ⊢ BI.own (ER (launchOf barCells scCells talkToks)) from
    Entails.of_eq (bigSep_onZero (F := F) (BI.own (ER (launchOf barCells scCells talkToks))))) $$ HG
  imod (Rounds.fund_launch ER (kRd (PBX (ins m)) (RBX (ins m))) disjoint_cells (fun g _ h => h) talkToks) $$ [Hv Hu] with ⟨%κ, -, #Hinv, #Hr, Hat, Hopen, Htok⟩
  · isplitl [Hv]
    · iapply hv $$ Hv
    · iexact Hu
  imodintro
  iapply (bigSep_with_persistent (R := records (PBX (ins m)) (RBX (ins m)) κ) (Φ := fun c => iprop(linear c ∗ bundle c)) fun c _ => E0_intro m κ c)
  isplitr
  · unfold records
    isplitr; · iexact Hinv
    iexact Hr
  iapply (pair _ _)
  isplitr [HB]
  · unfold linear
    iapply (pair _ _); isplitl [Hat]; · iapply hat $$ Hat
    iapply (pair _ _); isplitl [Hopen]; · iapply hop $$ Hopen
    iapply (toks_all (F := F)) $$ Htok
  · iexact HB

/-! ## The run -/

abbrev E : Fin 2 → Dev nD → sProp 𝕄 := fun | 0 => E0 m | 1 => E1

theorem unscoped_eq : ∀ sm : SemLoc sig, sm.isScoped .tc = false → sm = .reg barS := by decide

theorem Vf_arg (c : Dev nD) (r : Ref sig .tc) (h : r ∉ ([main_v15] : List (Ref sig .tc))) (h' : r ∉ hostOps0_W) :
    Vf m c (Proc.devRef .tc r) = m ((c : Thread nD τ).loc r) := (Vf_of m c r h).trans ((V1_of m c r h').trans rfl)

set_option backward.isDefEq.respectTransparency.types false in
/-- From any memory with zero counters, every weakly fair execution on the four devices ends with the arguments as launched,
    the result at `outV`, and every counter at zero. -/
theorem run_main (ρ : Dev nD → PrngReg) : θ_run defs (onTc (τ := τ) (main (F := F))) ⟨m, fun _ => 0, ρ⟩
    (fun r => (∀ c : Dev nD, r.2.mem ((c.tc : Thread nD τ).loc main_v15) = outV m c
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) () cellOf_inj EP defs₀ 𝒱₀ L lv m ρ main
    (segs m 𝒱₀ L lv (E m) () (pdats m) (reg m))
    (fun c Q => by
      rewrite [main_chain c, Pipeline.Seg.run_eq_chain,
        show (segs m 𝒱₀ L lv (E m) () (pdats m) (reg m) c).map Pipeline.Seg.prog = [StableHlo.seq (hostOps0 c), Prog.lift (.customCall (Pipeline.entry 0) ())] from rfl]
      dsimp (config := { failIfUnchanged := false }) only
      exact .rfl)
    (fun c => by simp only [segs, Pipeline.Seg.pipes_host, Pipeline.Seg.pipes_region, Pipeline.Seg.pipes_nil]; decide) O₀ L_of_ne G u₀
    (by
      unfold u₀ G
      iintro Hu
      ihave H := (ownU_pair _ _) $$ Hu
      icases H with ⟨HP, HX⟩
      imodintro
      isplitl [HP]; · iexact HP
      rw [bigSep_onZero]; iexact HX)
    (T₀ := fun c => iprop(StableHlo.held (c : Thread nD τ) (Pipeline.ucRefs τ sig) (V0 m c) ∗ E m 0 c))
    (Tₙ := fun c => iprop(StableHlo.held (c : Thread nD τ) (Pipeline.ucRefs τ sig) (Vf m c) ∗ semVal (barCell c) 0))
    (hch := fun c => ⟨.rfl, reg_pre m c, (reg_post m c).trans ?_⟩)
    (hinit := ?_)
    (QY := fun c s => (s.mem ((c.tc : Thread nD τ).loc main_v15) = outV m c
        ∧ s.mem ((c.tc : Thread nD τ).loc main_arg0) = m ((c.tc : Thread nD τ).loc main_arg0)
        ∧ s.mem ((c.tc : Thread nD τ).loc main_arg1) = m ((c.tc : Thread nD τ).loc main_arg1)
        ∧ s.mem ((c.tc : Thread nD τ).loc main_arg2) = m ((c.tc : Thread nD τ).loc main_arg2)
        ∧ s.mem ((c.tc : Thread nD τ).loc main_arg3) = m ((c.tc : Thread nD τ).loc main_arg3)
        ∧ s.mem ((c.tc : Thread nD τ).loc main_arg4) = m ((c.tc : Thread nD τ).loc main_arg4)) ∧ s.sem (barCell c) = 0)
    (hfin := fun c s' => ?_)
    (hQ := fun s h hs => ⟨fun c => (h c).1, sem_eq_zero hs fun c sm hsm => by
      obtain rfl := unscoped_eq sm hsm
      exact (h c).2⟩)
  · show iprop(StableHlo.held (c : Thread nD τ) (Pipeline.ucRefs τ sig) (Vf m c) ∗ semVal (barCell c) 0 ∗ owesAny c 0) ⊢ _
    iintro ⟨Hh, Hb, HO⟩
    isplitr [HO]
    · isplitl [Hh] <;> iassumption
    · iexact HO
  · have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held (Ix := Unit) (Name := ℕ) (U := UU) (Lvl := ℕ) c (V0 m c)]; exact BI.Entails.refl _
    iintro ⟨H, Hla⟩
    ihave H' := hsplit $$ H
    icases H' with ⟨Hh, Hr⟩
    imod (init m ρ) $$ [Hr Hla] with HE
    · isplitl [Hr]; · iexact Hr
      iexact Hla
    imodintro
    iapply (pair (fun c => StableHlo.held (c : Thread nD τ) (Pipeline.ucRefs τ sig) (V0 m c)) (E0 m))
    isplitl [Hh]; · iexact Hh
    iexact HE
  · unfold StableHlo.held
    iintro ⟨⟨Hh, Hb0⟩, HSI⟩
    ihave Hr := (pointsTo_read_all (Pipeline.ucRefs τ sig) (fun b => ((c : Thread nD τ).1, b)) (Vf m c) s') $$ [Hh HSI]
    · isplitl [Hh] <;> iassumption
    icases Hr with ⟨%h, HSI⟩
    icombine HSI Hb0 gives %hb
    imodintro
    isplitr
    · ipureintro
      have rd : ∀ r : Ref sig .tc, ¬ (Proc.tc.devRef (τ := τ) r).isScoped = true → s'.mem.mem ((c.tc : Thread nD τ).loc r) = Vf m c (Proc.devRef .tc r) := fun r hr =>
        h (Proc.devRef .tc r) (Finset.mem_filter.mpr ⟨StableHlo.devRef_mem_tcRefs r, hr⟩)
      exact ⟨⟨(rd main_v15 (by decide)).trans (Vf_out m c),
        (rd main_arg0 (by decide)).trans (Vf_arg m c main_arg0 (by decide) (by decide)),
        (rd main_arg1 (by decide)).trans (Vf_arg m c main_arg1 (by decide) (by decide)),
        (rd main_arg2 (by decide)).trans (Vf_arg m c main_arg2 (by decide) (by decide)),
        (rd main_arg3 (by decide)).trans (Vf_arg m c main_arg3 (by decide) (by decide)),
        (rd main_arg4 (by decide)).trans (Vf_arg m c main_arg4 (by decide) (by decide))⟩, by simpa using hb⟩
    iexact HSI

end Cert.KernelIdealProof
-- ==== Proof.Value.Spec.lean ====
/-
  Softmax attention of one head over the extended reals, and what the reference's result is in its terms.
-/
module

public import proofs.«01_k».proof.Proof.Gen.ReferenceIdeal.Run
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe

/-! ## One head -/

/-- The scaled product of query `i` with key `j`. -/
def score (Q K : Fin 256 → Fin 128 → EReal) (i j : Fin 256) : EReal := (∑ d, Q i d * K j d) * Ideal.ofBits .f32 1035273459#32
/-- The largest score of query `i`. -/
def top (Q K : Fin 256 → Fin 128 → EReal) (i : Fin 256) : EReal :=
  Finset.fold max (Ideal.ofBits .f32 4286578688#32) (fun j => score Q K i j) Finset.univ
def weight (Q K : Fin 256 → Fin 128 → EReal) (i j : Fin 256) : EReal := Ideal.exp (score Q K i j - top Q K i)
/-- The head's result. -/
def head (Q K V : Fin 256 → Fin 128 → EReal) (i : Fin 256) (d : Fin 128) : EReal :=
  Ideal.div (∑ j, weight Q K i j * V j d) (∑ j, weight Q K i j)

/-- The initial value of a running maximum adds nothing to it. -/
theorem max_fold (b : EReal) (f : Fin 256 → EReal) : max b (Finset.fold max b f Finset.univ) = Finset.fold max b f Finset.univ :=
  max_eq_right ((Finset.le_fold_max b).mpr (Or.inl le_rfl))

/-! ## The whole model -/

/-- Row `128 g + d` of 4096, and of 1024. -/
def at32 (g : Fin 32) (d : Fin 128) : Fin 4096 := ⟨128 * g.val + d.val, by have := g.isLt; have := d.isLt; omega⟩
def at8 (g : Fin 8) (d : Fin 128) : Fin 1024 := ⟨128 * g.val + d.val, by have := g.isLt; have := d.isLt; omega⟩
/-- The key head that query head `g` reads. -/
def kv (g : Fin 32) : Fin 8 := ⟨g.val / 4, by have := g.isLt; omega⟩

theorem kv_at (g : Fin 32) (d : Fin 128) (h : g.val / 4 * 128 + d.val < 1024) : (⟨g.val / 4 * 128 + d.val, h⟩ : Fin 1024) = at8 (kv g) d :=
  Fin.ext (by show g.val / 4 * 128 + d.val = 128 * (g.val / 4) + d.val; omega)

/-- The whole arguments. -/
structure Args where
  x : (⟨3, ![1, 256, 1024]⟩ : Shape).Idx → EReal
  wq : (⟨2, ![1024, 4096]⟩ : Shape).Idx → EReal
  wk : (⟨2, ![1024, 1024]⟩ : Shape).Idx → EReal
  wv : (⟨2, ![1024, 1024]⟩ : Shape).Idx → EReal
  wo : (⟨2, ![4096, 1024]⟩ : Shape).Idx → EReal

namespace Args
variable (A : Args)

def q (g : Fin 32) (i : Fin 256) (d : Fin 128) : EReal := ∑ k, A.x (ix3 0 i k) * A.wq (ix2 k (at32 g d))
def k (g : Fin 32) (i : Fin 256) (d : Fin 128) : EReal := ∑ k, A.x (ix3 0 i k) * A.wk (ix2 k (at8 (kv g) d))
def v (g : Fin 32) (i : Fin 256) (d : Fin 128) : EReal := ∑ k, A.x (ix3 0 i k) * A.wv (ix2 k (at8 (kv g) d))
/-- What head `g` adds to the result. -/
def term (g : Fin 32) (i : Fin 256) (j : Fin 1024) : EReal :=
  ∑ d, head (A.q g) (A.k g) (A.v g) i d * A.wo (ix2 (at32 g d) j)
/-- The result. -/
def out (i : Fin 256) (j : Fin 1024) : EReal := ∑ g, A.term g i j

end Args

/-- A row is a head and a place in it. -/
def rowEquiv : Fin 32 × Fin 128 ≃ Fin 4096 where
  toFun p := at32 p.1 p.2
  invFun e := (⟨e.val / 128, by have := e.isLt; omega⟩, ⟨e.val % 128, by omega⟩)
  left_inv p := by
    have := p.2.isLt
    refine Prod.ext (Fin.ext ?_) (Fin.ext ?_)
    · show (128 * p.1.val + p.2.val) / 128 = p.1.val; omega
    · show (128 * p.1.val + p.2.val) % 128 = p.2.val; omega
  right_inv e := Fin.ext (by show 128 * (e.val / 128) + e.val % 128 = e.val; omega)

/-- A sum over 4096 rows, head by head. -/
theorem sum_rows (f : Fin 4096 → EReal) : ∑ e, f e = ∑ g : Fin 32, ∑ d : Fin 128, f (at32 g d) :=
  (Equiv.sum_comp rowEquiv f).symm.trans (Fintype.sum_prod_type _)

end Cert.Attn

namespace Cert.Attn

open Cert.ReferenceIdeal Cert.ReferenceIdeal.Gen Idealize.ShloMosaic Idealize.ShloMosaic.TcCoe

variable (m : (ℓ : Loc nD τ sig) → Buf (Elt Ideal) ℓ)

/-- The reference's arguments. -/
def refArgs : Args where
  x := m (((0 : Dev nD).tc : Thread nD τ).loc main_arg0)
  wq := m (((0 : Dev nD).tc : Thread nD τ).loc main_arg1)
  wk := m (((0 : Dev nD).tc : Thread nD τ).loc main_arg2)
  wv := m (((0 : Dev nD).tc : Thread nD τ).loc main_arg3)
  wo := m (((0 : Dev nD).tc : Thread nD τ).loc main_arg4)

/-! ### The reference's term, in four steps -/

section Steps
variable (x : FVec Ideal S1x256x1024 .f32) (wq : FVec Ideal S1024x4096 .f32) (wk wv : FVec Ideal S1024x1024 .f32) (wo : FVec Ideal S4096x1024 .f32)

/-- Keys or values, each head four times. -/
def rKv (w : FVec Ideal S1024x1024 .f32) : FVec Ideal S1x256x32x128 .f32 :=
  shapeCast _ (broadcastInDim S1x256x8x4x128 ![0, 1, 2, 4] bcast_S1x256x8x128_S1x256x8x4x128_0_1_2_4
    (shapeCast _ (Host.dotGeneral dot_S1x256x1024_S1024x1024_S1x256x1024_2_0_01_1_n_n none x w) shapeCasts_S1x256x1024_S1x256x8x128))
    shapeCasts_S1x256x8x4x128_S1x256x32x128
def rScore : FVec Ideal S1x32x256x256 .f32 :=
  mulf (Host.dotGeneral dot_S1x256x32x128_S1x256x32x128_S1x32x256x256_3_3_1_1_02_02 none
      (shapeCast _ (Host.dotGeneral dot_S1x256x1024_S1024x4096_S1x256x4096_2_0_01_1_n_n none x wq) shapeCasts_S1x256x4096_S1x256x32x128 : FVec Ideal S1x256x32x128 .f32)
      (rKv x wk))
    (broadcastInDim S1x32x256x256 ![] bcast_S_S1x32x256x256 (constant S_ .f32 0x3DB504F3#32))
def rMax (s : FVec Ideal S1x32x256x256 .f32) : FVec Ideal S1x32x256 .f32 :=
  Host.reduce FloatOps.maximumf s (constant S_ .f32 0xFF800000#32) reducesTo_S1x32x256x256_S1x32x256_d3 h_S_
def rTop (s : FVec Ideal S1x32x256x256 .f32) : FVec Ideal S1x32x256x1 .f32 :=
  maximumf (broadcastInDim S1x32x256x1 ![] bcast_S_S1x32x256x1 (constant S_ .f32 0xFF800000#32))
    (broadcastInDim S1x32x256x1 ![0, 1, 2] bcast_S1x32x256_S1x32x256x1_0_1_2 (rMax s))
def rWeight (s : FVec Ideal S1x32x256x256 .f32) : FVec Ideal S1x32x256x256 .f32 :=
  Host.exp (subf s (broadcastInDim S1x32x256x256 ![0, 1, 2, 3] bcast_S1x32x256x1_S1x32x256x256_0_1_2_3 (rTop s)))
/-- The factor of what came before the one block of keys. -/
def rAlpha (s : FVec Ideal S1x32x256x256 .f32) : FVec Ideal S1x32x256x1 .f32 :=
  Host.exp (subf (broadcastInDim S1x32x256x1 ![] bcast_S_S1x32x256x1 (constant S_ .f32 0xFF800000#32)) (rTop s))
/-- The weighted values, and the sum of the weights, with what came before. -/
def rNum (s : FVec Ideal S1x32x256x256 .f32) (v : FVec Ideal S1x256x32x128 .f32) : FVec Ideal S1x256x32x128 .f32 :=
  addf (mulf (broadcastInDim S1x256x32x128 ![] bcast_S_S1x256x32x128 (constant S_ .f32 0x00000000#32))
      (broadcastInDim S1x256x32x128 ![0, 1, 2, 3] bcast_S1x256x32x1_S1x256x32x128_0_1_2_3
        (transpose S1x256x32x1 [0, 2, 1, 3] (rAlpha s) transposes_S1x32x256x1_S1x256x32x1_0_2_1_3)))
    (transpose S1x256x32x128 [0, 3, 1, 2]
      (Host.dotGeneral dot_S1x256x32x128_S1x32x256x256_S1x32x128x256_1_3_3_2_02_01 none v (rWeight s)) transposes_S1x32x128x256_S1x256x32x128_0_3_1_2)
def rSum (w : FVec Ideal S1x32x256x256 .f32) : FVec Ideal S1x32x256 .f32 :=
  Host.reduceAdd w (constant S_ .f32 0x00000000#32) reducesTo_S1x32x256x256_S1x32x256_d3 h_S_
def rDen (s : FVec Ideal S1x32x256x256 .f32) : FVec Ideal S1x32x256x1 .f32 :=
  addf (mulf (broadcastInDim S1x32x256x1 ![] bcast_S_S1x32x256x1 (constant S_ .f32 0x00000000#32)) (rAlpha s))
    (broadcastInDim S1x32x256x1 ![0, 1, 2] bcast_S1x32x256_S1x32x256x1_0_1_2 (rSum (rWeight s)))
def rHeads (s : FVec Ideal S1x32x256x256 .f32) (v : FVec Ideal S1x256x32x128 .f32) : FVec Ideal S1x256x32x128 .f32 :=
  Host.divf (rNum s v)
    (broadcastInDim S1x256x32x128 ![0, 1, 2, 3] bcast_S1x256x32x1_S1x256x32x128_0_1_2_3
      (transpose S1x256x32x1 [0, 2, 1, 3] (rDen s) transposes_S1x32x256x1_S1x256x32x1_0_2_1_3))
def rOut : FVec Ideal S1x256x1024 .f32 :=
  Host.dotGeneral dot_S1x256x4096_S4096x1024_S1x256x1024_2_0_01_1_n_n none
    (shapeCast _ (rHeads (rScore x wq wk) (rKv x wv)) shapeCasts_S1x256x32x128_S1x256x4096 : FVec Ideal S1x256x4096 .f32) wo

theorem rMax_at (s : FVec Ideal S1x32x256x256 .f32) (g : Fin 32) (i : Fin 256) :
    rMax s (ix3 0 g i) = Finset.fold max (Ideal.ofBits .f32 4286578688#32) (fun j => (s (ix4 0 g i j) : EReal)) Finset.univ := by
  unfold rMax
  pointwise
theorem rSum_at (w : FVec Ideal S1x32x256x256 .f32) (g : Fin 32) (i : Fin 256) :
    rSum w (ix3 0 g i) = ∑ j, (w (ix4 0 g i j) : EReal) := by
  unfold rSum
  pointwise
theorem max_at (t : FVec Ideal S1x32x256x1 .f32) (g : Fin 32) (i : Fin 256) :
    maximumf (broadcastInDim S1x32x256x1 ![] bcast_S_S1x32x256x1 (constant S_ .f32 0xFF800000#32)) t (ix4 0 g i 0)
      = max (Ideal.ofBits .f32 4286578688#32) (t (ix4 0 g i 0)) := by
  pointwise
theorem col_at (t : FVec Ideal S1x32x256 .f32) (g : Fin 32) (i : Fin 256) :
    broadcastInDim S1x32x256x1 ![0, 1, 2] bcast_S1x32x256_S1x32x256x1_0_1_2 t (ix4 0 g i 0) = t (ix3 0 g i) := by
  pointwise
theorem exp_at (s : FVec Ideal S1x32x256x256 .f32) (t : FVec Ideal S1x32x256x1 .f32) (g : Fin 32) (i j : Fin 256) :
    Host.exp (subf s (broadcastInDim S1x32x256x256 ![0, 1, 2, 3] bcast_S1x32x256x1_S1x32x256x256_0_1_2_3 t)) (ix4 0 g i j)
      = Ideal.exp (s (ix4 0 g i j) - t (ix4 0 g i 0)) := by
  pointwise
theorem num_at (a : FVec Ideal S1x256x32x128 .f32) (w : FVec Ideal S1x32x256x256 .f32) (v : FVec Ideal S1x256x32x128 .f32)
    (i : Fin 256) (g : Fin 32) (d : Fin 128) :
    addf (mulf (broadcastInDim S1x256x32x128 ![] bcast_S_S1x256x32x128 (constant S_ .f32 0x00000000#32)) a)
      (transpose S1x256x32x128 [0, 3, 1, 2]
        (Host.dotGeneral dot_S1x256x32x128_S1x32x256x256_S1x32x128x256_1_3_3_2_02_01 none v w) transposes_S1x32x128x256_S1x256x32x128_0_3_1_2) (ix4 0 i g d)
      = ∑ j, w (ix4 0 g i j) * v (ix4 0 j g d) := by
  pointwise
  simp only [zero_mul, zero_add, mul_comm]
theorem den_at (a t : FVec Ideal S1x32x256x1 .f32) (g : Fin 32) (i : Fin 256) :
    addf (mulf (broadcastInDim S1x32x256x1 ![] bcast_S_S1x32x256x1 (constant S_ .f32 0x00000000#32)) a) t (ix4 0 g i 0) = t (ix4 0 g i 0) := by
  pointwise
  simp only [zero_mul, zero_add]
theorem div_at (n : FVec Ideal S1x256x32x128 .f32) (t : FVec Ideal S1x32x256x1 .f32) (i : Fin 256) (g : Fin 32) (d : Fin 128) :
    Host.divf n (broadcastInDim S1x256x32x128 ![0, 1, 2, 3] bcast_S1x256x32x1_S1x256x32x128_0_1_2_3
      (transpose S1x256x32x1 [0, 2, 1, 3] t transposes_S1x32x256x1_S1x256x32x1_0_2_1_3)) (ix4 0 i g d)
      = Ideal.div (n (ix4 0 i g d)) (t (ix4 0 g i 0)) := by
  pointwise
theorem rTop_at (s : FVec Ideal S1x32x256x256 .f32) (g : Fin 32) (i : Fin 256) (Q K : Fin 256 → Fin 128 → EReal)
    (hs : ∀ j, s (ix4 0 g i j) = score Q K i j) : rTop s (ix4 0 g i 0) = top Q K i := by
  unfold rTop
  rw [max_at, col_at, rMax_at, max_fold]
  simp only [hs]
  rfl
theorem rWeight_at (s : FVec Ideal S1x32x256x256 .f32) (g : Fin 32) (i j : Fin 256) (Q K : Fin 256 → Fin 128 → EReal)
    (hs : ∀ j, s (ix4 0 g i j) = score Q K i j) : rWeight s (ix4 0 g i j) = weight Q K i j := by
  unfold rWeight
  rw [exp_at, rTop_at s g i Q K hs, hs]
  rfl
theorem rNum_at (s : FVec Ideal S1x32x256x256 .f32) (v : FVec Ideal S1x256x32x128 .f32) (i : Fin 256) (g : Fin 32) (d : Fin 128)
    (Q K V : Fin 256 → Fin 128 → EReal) (hs : ∀ j, s (ix4 0 g i j) = score Q K i j) (hv : ∀ j, v (ix4 0 j g d) = V j d) :
    rNum s v (ix4 0 i g d) = ∑ j, weight Q K i j * V j d := by
  unfold rNum
  rw [num_at]
  exact Finset.sum_congr rfl fun j _ => congrArg₂ (· * ·) (rWeight_at s g i j Q K hs) (hv j)
theorem rDen_at (s : FVec Ideal S1x32x256x256 .f32) (g : Fin 32) (i : Fin 256) (Q K : Fin 256 → Fin 128 → EReal)
    (hs : ∀ j, s (ix4 0 g i j) = score Q K i j) : rDen s (ix4 0 g i 0) = ∑ j, weight Q K i j := by
  unfold rDen
  rw [den_at, col_at, rSum_at]
  exact Finset.sum_congr rfl fun j _ => rWeight_at s g i j Q K hs
/-- A head's result, from its scores and values. -/
theorem rHeads_at (s : FVec Ideal S1x32x256x256 .f32) (v : FVec Ideal S1x256x32x128 .f32) (i : Fin 256) (g : Fin 32) (d : Fin 128)
    (Q K V : Fin 256 → Fin 128 → EReal) (hs : ∀ j, s (ix4 0 g i j) = score Q K i j) (hv : ∀ j, v (ix4 0 j g d) = V j d) :
    rHeads s v (ix4 0 i g d) = head Q K V i d := by
  unfold rHeads
  rw [div_at, rNum_at s v i g d Q K V hs hv, rDen_at s g i Q K hs]
  rfl

theorem rScore_at (A : Args) (hx : A.x = x) (hq : A.wq = wq) (hk : A.wk = wk) (g : Fin 32) (i j : Fin 256) :
    rScore x wq wk (ix4 0 g i j) = score (A.q g) (A.k g) i j := by
  subst hx hq hk
  pointwise [rScore, rKv]
  unfold score Args.q Args.k
  have e1 : ∀ (y : Fin 128) (h : g.val * 128 + y.val < 4096), (⟨g.val * 128 + y.val, h⟩ : Fin 4096) = at32 g y := fun y h =>
    Fin.ext (by show g.val * 128 + y.val = 128 * g.val + y.val; omega)
  simp only [e1, kv_at]

theorem rKv_at (A : Args) (w : FVec Ideal S1024x1024 .f32) (hx : A.x = x) (hv : A.wv = w) (g : Fin 32) (j : Fin 256) (d : Fin 128) :
    rKv x w (ix4 0 j g d) = A.v g j d := by
  subst hx hv
  pointwise [rKv]
  unfold Args.v
  simp only [kv_at]

theorem rOut_at (A : Args) (hx : A.x = x) (hq : A.wq = wq) (hk : A.wk = wk) (hv : A.wv = wv) (ho : A.wo = wo) (i : Fin 256) (j : Fin 1024) :
    rOut x wq wk wv wo (ix3 0 i j) = A.out i j := by
  have hh := fun g d => rHeads_at (rScore x wq wk) (rKv x wv) i g d (A.q g) (A.k g) (A.v g) (fun j => rScore_at x wq wk A hx hq hk g i j)
    (fun j => rKv_at x A wv hx hv g j d)
  pointwise [rOut]
  rw [sum_rows]
  unfold Args.out Args.term
  refine Finset.sum_congr rfl fun g _ => Finset.sum_congr rfl fun d _ => ?_
  rw [← hh g d, ho]
  have hg : ∀ h, (⟨(at32 g d).val / 128, h⟩ : Fin 32) = g := fun h => Fin.ext (by have := d.isLt; show (128 * g.val + d.val) / 128 = _; omega)
  have hd : ∀ h, (⟨(at32 g d).val % 128, h⟩ : Fin 128) = d := fun h => Fin.ext (by have := d.isLt; show (128 * g.val + d.val) % 128 = _; omega)
  simp only [hg, hd]
end Steps

/-- The reference's result. -/
theorem reference_at (i : Fin 256) (j : Fin 1024) :
    (Cert.ReferenceIdeal.Value.res_main_v38 m 0 : FVec Ideal S1x256x1024 .f32) (ix3 0 i j) = (refArgs m).out i j :=
  (congrFun (show (Cert.ReferenceIdeal.Value.res_main_v38 m 0 : FVec Ideal S1x256x1024 .f32) = rOut _ _ _ _ _ from rfl) _).trans
    (rOut_at _ _ _ _ _ (refArgs m) rfl rfl rfl rfl rfl i j)

end Cert.Attn
-- ==== Proof.Value.Heads.lean ====
/-
  One device's partial product over the extended reals, read at an index.
-/
module

public import proofs.«01_k».proof.Proof.Value.Spec
public import proofs.«01_k».proof.Proof.KernelIdeal.Parts

@[expose] public section

set_option maxRecDepth 16384

noncomputable section

namespace Cert.Attn

open Cert.KernelIdeal Cert.KernelIdeal.Gen Cert.KernelIdealProof
open Idealize.ShloMosaic Idealize.ShloMosaic.TcCoe

/-! ## A head, step by step -/

def hScore (q k : FVec Ideal S256x128 .bf16) : FVec Ideal S256x256 .f32 :=
  mulf (matmul dot_S256x128_S256x128_S256x256_1_1_0_0_n_n none q k (constant S256x256 .f32 0x00000000#32))
    (broadcast S256x256 (Scalar.ofBits (F := Ideal) .f32 0x3DB504F3#32))
def hRow (s : FVec Ideal S256x256 .f32) : FVec Ideal S256 .f32 :=
  multiReduction .maximumf [1] S256 s 0xFF800000#32 reduces_S256x256_S256 (.inl rfl) rfl
def hSub (s : FVec Ideal S256x256 .f32) (t : FVec Ideal S256 .f32) : FVec Ideal S256x256 .f32 :=
  subf s (broadcastTo S256x256 (shapeCast S256x1 t shapeCasts_S256_S256x1 : FVec Ideal S256x1 .f32) broadcasts_S256x1_S256x256)
def hSum (w : FVec Ideal S256x256 .f32) : FVec Ideal S256 .f32 :=
  multiReduction .add [1] S256 w 0x00000000#32 reduces_S256x256_S256 (.inl rfl) rfl
def hNum (w : FVec Ideal S256x256 .f32) (v : FVec Ideal S256x128 .bf16) : FVec Ideal S256x128 .f32 :=
  matmul dot_S256x256_S256x128_S256x128_1_0_0_1_n_n none (truncf .bf16 w bitsLt_bf16_f32 : FVec Ideal S256x256 .bf16) v (constant S256x128 .f32 0x00000000#32)
def hDiv (n : FVec Ideal S256x128 .f32) (r : FVec Ideal S256 .f32) : FVec Ideal S256x128 .f32 :=
  divf n (broadcastTo S256x128 (shapeCast S256x1 r shapeCasts_S256_S256x1 : FVec Ideal S256x1 .f32) broadcasts_S256x1_S256x128)
def hWeight (q k : FVec Ideal S256x128 .bf16) : FVec Ideal S256x256 .f32 := exp (hSub (hScore q k) (hRow (hScore q k)))
def hOut (q k v : FVec Ideal S256x128 .bf16) : FVec Ideal S256x128 .bf16 :=
  truncf .bf16 (hDiv (hNum (hWeight q k) v) (hSum (hWeight q k))) bitsLt_bf16_f32

/-- A block of 128 columns as a function of row and column. -/
abbrev cols (q : FVec Ideal S256x128 .bf16) (i : Fin 256) (d : Fin 128) : EReal := q (ix2 i d)

theorem hScore_at (q k : FVec Ideal S256x128 .bf16) (i j : Fin 256) : hScore q k (ix2 i j) = score (cols q) (cols k) i j := by
  unfold hScore
  pointwise
  rfl
theorem hRow_at (s : FVec Ideal S256x256 .f32) (i : Fin 256) :
    hRow s (ix1 i) = Finset.fold max (Ideal.ofBits .f32 4286578688#32) (fun j => (s (ix2 i j) : EReal)) Finset.univ := by
  unfold hRow
  pointwise
theorem hSub_at (s : FVec Ideal S256x256 .f32) (t : FVec Ideal S256 .f32) (i j : Fin 256) : hSub s t (ix2 i j) = s (ix2 i j) - t (ix1 i) := by
  unfold hSub
  pointwise
theorem hSum_at (w : FVec Ideal S256x256 .f32) (i : Fin 256) : hSum w (ix1 i) = ∑ j, (w (ix2 i j) : EReal) := by
  unfold hSum
  pointwise
theorem hNum_at (w : FVec Ideal S256x256 .f32) (v : FVec Ideal S256x128 .bf16) (i : Fin 256) (d : Fin 128) :
    hNum w v (ix2 i d) = ∑ j, w (ix2 i j) * v (ix2 j d) := by
  unfold hNum
  pointwise
theorem hDiv_at (n : FVec Ideal S256x128 .f32) (r : FVec Ideal S256 .f32) (i : Fin 256) (d : Fin 128) :
    hDiv n r (ix2 i d) = Ideal.div (n (ix2 i d)) (r (ix1 i)) := by
  unfold hDiv
  pointwise
theorem hWeight_at (q k : FVec Ideal S256x128 .bf16) (i j : Fin 256) : hWeight q k (ix2 i j) = weight (cols q) (cols k) i j := by
  show Ideal.exp (hSub (hScore q k) (hRow (hScore q k)) (ix2 i j)) = _
  rw [hSub_at, hRow_at, hScore_at]
  simp only [hScore_at]
  rfl
theorem hOut_at (q k v : FVec Ideal S256x128 .bf16) (i : Fin 256) (d : Fin 128) : hOut q k v (ix2 i d) = head (cols q) (cols k) (cols v) i d := by
  show hDiv (hNum (hWeight q k) v) (hSum (hWeight q k)) (ix2 i d) = _
  rw [hDiv_at, hNum_at, hSum_at]
  simp only [hWeight_at]
  rfl

/-! ## The payloads are the heads -/

variable (I : Ins Ideal)

/-- The columns of head `n`, and of its keys and values. -/
def qCols (q : FVec Ideal S256x1024 .bf16) (n : Fin 8) (i : Fin 256) (d : Fin 128) : EReal := q (ix2 i (at8 n d))
def kvCols (k : FVec Ideal S256x256 .bf16) (n : Fin 8) (i : Fin 256) (d : Fin 128) : EReal := k (ix2 i ⟨128 * (n.val / 4) + d.val, by have := n.isLt; have := d.isLt; omega⟩)

theorem at_col (q : FVec Ideal S256x1024 .bf16) {e f : ℕ} {he : e < 1024} {hf : f < 1024} (i : Fin 256) (h : e = f) :
    q (ix2 i ⟨e, he⟩) = q (ix2 i ⟨f, hf⟩) := by
  subst h; rfl
theorem at_kv (k : FVec Ideal S256x256 .bf16) {e f : ℕ} {he : e < 256} {hf : f < 256} (i : Fin 256) (h : e = f) :
    k (ix2 i ⟨e, he⟩) = k (ix2 i ⟨f, hf⟩) := by
  subst h; rfl
theorem q0_at (q : FVec Ideal S256x1024 .bf16) (i : Fin 256) (d : Fin 128) :
    extractStridedSlice S256x128 ![0, 0] q slices_S256x1024_o0_0_S256x128 (ix2 i d) = qCols q 0 i d := by
  pointwise
  exact at_col q (f := 128 * 0 + d.val) i (by omega)
theorem q1_at (q : FVec Ideal S256x1024 .bf16) (i : Fin 256) (d : Fin 128) :
    extractStridedSlice S256x128 ![0, 128] q slices_S256x1024_o0_128_S256x128 (ix2 i d) = qCols q 1 i d := by
  pointwise
  exact at_col q (f := 128 * 1 + d.val) i (by omega)
theorem q2_at (q : FVec Ideal S256x1024 .bf16) (i : Fin 256) (d : Fin 128) :
    extractStridedSlice S256x128 ![0, 256] q slices_S256x1024_o0_256_S256x128 (ix2 i d) = qCols q 2 i d := by
  pointwise
  exact at_col q (f := 128 * 2 + d.val) i (by omega)
theorem q3_at (q : FVec Ideal S256x1024 .bf16) (i : Fin 256) (d : Fin 128) :
    extractStridedSlice S256x128 ![0, 384] q slices_S256x1024_o0_384_S256x128 (ix2 i d) = qCols q 3 i d := by
  pointwise
  exact at_col q (f := 128 * 3 + d.val) i (by omega)
theorem q4_at (q : FVec Ideal S256x1024 .bf16) (i : Fin 256) (d : Fin 128) :
    extractStridedSlice S256x128 ![0, 512] q slices_S256x1024_o0_512_S256x128 (ix2 i d) = qCols q 4 i d := by
  pointwise
  exact at_col q (f := 128 * 4 + d.val) i (by omega)
theorem q5_at (q : FVec Ideal S256x1024 .bf16) (i : Fin 256) (d : Fin 128) :
    extractStridedSlice S256x128 ![0, 640] q slices_S256x1024_o0_640_S256x128 (ix2 i d) = qCols q 5 i d := by
  pointwise
  exact at_col q (f := 128 * 5 + d.val) i (by omega)
theorem q6_at (q : FVec Ideal S256x1024 .bf16) (i : Fin 256) (d : Fin 128) :
    extractStridedSlice S256x128 ![0, 768] q slices_S256x1024_o0_768_S256x128 (ix2 i d) = qCols q 6 i d := by
  pointwise
  exact at_col q (f := 128 * 6 + d.val) i (by omega)
theorem q7_at (q : FVec Ideal S256x1024 .bf16) (i : Fin 256) (d : Fin 128) :
    extractStridedSlice S256x128 ![0, 896] q slices_S256x1024_o0_896_S256x128 (ix2 i d) = qCols q 7 i d := by
  pointwise
  exact at_col q (f := 128 * 7 + d.val) i (by omega)
theorem k0_at (k : FVec Ideal S256x256 .bf16) (n : Fin 8) (hn : n.val < 4) (i : Fin 256) (d : Fin 128) :
    extractStridedSlice S256x128 ![0, 0] k slices_S256x256_o0_0_S256x128 (ix2 i d) = kvCols k n i d := by
  unfold kvCols
  pointwise
  exact at_kv k i (by omega)
theorem k1_at (k : FVec Ideal S256x256 .bf16) (n : Fin 8) (hn : 4 ≤ n.val) (i : Fin 256) (d : Fin 128) :
    extractStridedSlice S256x128 ![0, 128] k slices_S256x256_o0_128_S256x128 (ix2 i d) = kvCols k n i d := by
  unfold kvCols
  pointwise
  exact at_kv k i (by omega)

theorem hOut_of (q k v : FVec Ideal S256x128 .bf16) (Q K V : Fin 256 → Fin 128 → EReal) (hq : ∀ i d, q (ix2 i d) = Q i d)
    (hk : ∀ i d, k (ix2 i d) = K i d) (hv : ∀ i d, v (ix2 i d) = V i d) (i : Fin 256) (d : Fin 128) : hOut q k v (ix2 i d) = head Q K V i d := by
  obtain rfl : cols q = Q := funext fun i => funext fun d => hq i d
  obtain rfl : cols k = K := funext fun i => funext fun d => hk i d
  obtain rfl : cols v = V := funext fun i => funext fun d => hv i d
  exact hOut_at q k v i d

theorem h0_eq : I.h0 = hOut (extractStridedSlice S256x128 ![0, 0] I.q slices_S256x1024_o0_0_S256x128)
    (extractStridedSlice S256x128 ![0, 0] I.k slices_S256x256_o0_0_S256x128)
    (extractStridedSlice S256x128 ![0, 0] I.v slices_S256x256_o0_0_S256x128) := rfl
theorem h0_at (i : Fin 256) (d : Fin 128) : I.h0 (ix2 i d) = head (qCols I.q 0) (kvCols I.k 0) (kvCols I.v 0) i d := by
  rw [h0_eq]; exact hOut_of _ _ _ _ _ _ (q0_at _) (k0_at _ 0 (by decide)) (k0_at _ 0 (by decide)) i d
theorem h1_eq : I.h1 = hOut (extractStridedSlice S256x128 ![0, 128] I.q slices_S256x1024_o0_128_S256x128)
    (extractStridedSlice S256x128 ![0, 0] I.k slices_S256x256_o0_0_S256x128)
    (extractStridedSlice S256x128 ![0, 0] I.v slices_S256x256_o0_0_S256x128) := rfl
theorem h1_at (i : Fin 256) (d : Fin 128) : I.h1 (ix2 i d) = head (qCols I.q 1) (kvCols I.k 1) (kvCols I.v 1) i d := by
  rw [h1_eq]; exact hOut_of _ _ _ _ _ _ (q1_at _) (k0_at _ 1 (by decide)) (k0_at _ 1 (by decide)) i d
theorem h2_eq : I.h2 = hOut (extractStridedSlice S256x128 ![0, 256] I.q slices_S256x1024_o0_256_S256x128)
    (extractStridedSlice S256x128 ![0, 0] I.k slices_S256x256_o0_0_S256x128)
    (extractStridedSlice S256x128 ![0, 0] I.v slices_S256x256_o0_0_S256x128) := rfl
theorem h2_at (i : Fin 256) (d : Fin 128) : I.h2 (ix2 i d) = head (qCols I.q 2) (kvCols I.k 2) (kvCols I.v 2) i d := by
  rw [h2_eq]; exact hOut_of _ _ _ _ _ _ (q2_at _) (k0_at _ 2 (by decide)) (k0_at _ 2 (by decide)) i d
theorem h3_eq : I.h3 = hOut (extractStridedSlice S256x128 ![0, 384] I.q slices_S256x1024_o0_384_S256x128)
    (extractStridedSlice S256x128 ![0, 0] I.k slices_S256x256_o0_0_S256x128)
    (extractStridedSlice S256x128 ![0, 0] I.v slices_S256x256_o0_0_S256x128) := rfl
theorem h3_at (i : Fin 256) (d : Fin 128) : I.h3 (ix2 i d) = head (qCols I.q 3) (kvCols I.k 3) (kvCols I.v 3) i d := by
  rw [h3_eq]; exact hOut_of _ _ _ _ _ _ (q3_at _) (k0_at _ 3 (by decide)) (k0_at _ 3 (by decide)) i d
theorem h4_eq : I.h4 = hOut (extractStridedSlice S256x128 ![0, 512] I.q slices_S256x1024_o0_512_S256x128)
    (extractStridedSlice S256x128 ![0, 128] I.k slices_S256x256_o0_128_S256x128)
    (extractStridedSlice S256x128 ![0, 128] I.v slices_S256x256_o0_128_S256x128) := rfl
theorem h4_at (i : Fin 256) (d : Fin 128) : I.h4 (ix2 i d) = head (qCols I.q 4) (kvCols I.k 4) (kvCols I.v 4) i d := by
  rw [h4_eq]; exact hOut_of _ _ _ _ _ _ (q4_at _) (k1_at _ 4 (by decide)) (k1_at _ 4 (by decide)) i d
theorem h5_eq : I.h5 = hOut (extractStridedSlice S256x128 ![0, 640] I.q slices_S256x1024_o0_640_S256x128)
    (extractStridedSlice S256x128 ![0, 128] I.k slices_S256x256_o0_128_S256x128)
    (extractStridedSlice S256x128 ![0, 128] I.v slices_S256x256_o0_128_S256x128) := rfl
theorem h5_at (i : Fin 256) (d : Fin 128) : I.h5 (ix2 i d) = head (qCols I.q 5) (kvCols I.k 5) (kvCols I.v 5) i d := by
  rw [h5_eq]; exact hOut_of _ _ _ _ _ _ (q5_at _) (k1_at _ 5 (by decide)) (k1_at _ 5 (by decide)) i d
theorem h6_eq : I.h6 = hOut (extractStridedSlice S256x128 ![0, 768] I.q slices_S256x1024_o0_768_S256x128)
    (extractStridedSlice S256x128 ![0, 128] I.k slices_S256x256_o0_128_S256x128)
    (extractStridedSlice S256x128 ![0, 128] I.v slices_S256x256_o0_128_S256x128) := rfl
theorem h6_at (i : Fin 256) (d : Fin 128) : I.h6 (ix2 i d) = head (qCols I.q 6) (kvCols I.k 6) (kvCols I.v 6) i d := by
  rw [h6_eq]; exact hOut_of _ _ _ _ _ _ (q6_at _) (k1_at _ 6 (by decide)) (k1_at _ 6 (by decide)) i d
/-- The last head. -/
def h7 : FVec Ideal S256x128 .bf16 := hOut (extractStridedSlice S256x128 ![0, 896] I.q slices_S256x1024_o0_896_S256x128)
    (extractStridedSlice S256x128 ![0, 128] I.k slices_S256x256_o0_128_S256x128)
    (extractStridedSlice S256x128 ![0, 128] I.v slices_S256x256_o0_128_S256x128)
theorem h7_at (i : Fin 256) (d : Fin 128) : h7 I (ix2 i d) = head (qCols I.q 7) (kvCols I.k 7) (kvCols I.v 7) i d :=
  hOut_of _ _ _ _ _ _ (q7_at _) (k1_at _ 7 (by decide)) (k1_at _ 7 (by decide)) i d

/-! ## The eight heads beside each other, times the rows of the output weights -/

/-- A column is a head and a place in it. -/
def colEquiv : Fin 8 × Fin 128 ≃ Fin 1024 where
  toFun p := at8 p.1 p.2
  invFun e := (⟨e.val / 128, by have := e.isLt; omega⟩, ⟨e.val % 128, by omega⟩)
  left_inv p := by
    have := p.2.isLt
    refine Prod.ext (Fin.ext ?_) (Fin.ext ?_)
    · show (128 * p.1.val + p.2.val) / 128 = p.1.val; omega
    · show (128 * p.1.val + p.2.val) % 128 = p.2.val; omega
  right_inv e := Fin.ext (by show 128 * (e.val / 128) + e.val % 128 = e.val; omega)

/-- A sum over 1024 columns, head by head. -/
theorem sum_cols (f : Fin 1024 → EReal) : ∑ e, f e = ∑ n : Fin 8, ∑ d : Fin 128, f (at8 n d) :=
  (Equiv.sum_comp colEquiv f).symm.trans (Fintype.sum_prod_type _)

/-- Eight blocks of columns side by side. -/
def side (h : Fin 8 → FVec Ideal S256x128 .bf16) : FVec Ideal S256x1024 .bf16 :=
  concatenate S256x1024 1 [⟨S256x128, h 0⟩, ⟨S256x128, h 1⟩, ⟨S256x128, h 2⟩, ⟨S256x128, h 3⟩, ⟨S256x128, h 4⟩, ⟨S256x128, h 5⟩, ⟨S256x128, h 6⟩, ⟨S256x128, h 7⟩]
    concatenates_S256x128_S256x128_S256x128_S256x128_S256x128_S256x128_S256x128_S256x128_S256x1024_d1
def times (a : FVec Ideal S256x1024 .bf16) (w : FVec Ideal S1024x1024 .bf16) : FVec Ideal S256x1024 .f32 :=
  matmul dot_S256x1024_S1024x1024_S256x1024_1_0_0_1_n_n none a w (constant S256x1024 .f32 0x00000000#32)

theorem times_at (h : Fin 8 → FVec Ideal S256x128 .bf16) (w : FVec Ideal S1024x1024 .bf16) (i : Fin 256) (j : Fin 1024) :
    times (side h) w (ix2 i j) = ∑ n, ∑ d, h n (ix2 i d) * w (ix2 (at8 n d) j) := by
  unfold times side
  pointwise
  rw [sum_cols]
  refine Finset.sum_congr rfl fun n _ => Finset.sum_congr rfl fun d _ => congrArg (· * _) ?_
  have hd := d.isLt
  have hv : (at8 n d).val = 128 * n.val + d.val := rfl
  have at_ : ∀ (p : Fin 8) (e : ℕ) (he : e < 128), n = p → e = d.val → h p (ix2 i ⟨e, he⟩) = h n (ix2 i d) := by
    intro p e he hp h'; subst hp; subst h'; rfl
  split_ifs <;> exact at_ _ _ _ (by omega) (by omega)

/-! ## The partial product -/

def hs : Fin 8 → FVec Ideal S256x128 .bf16 := ![I.h0, I.h1, I.h2, I.h3, I.h4, I.h5, I.h6, h7 I]

theorem hs_at (n : Fin 8) (i : Fin 256) (d : Fin 128) : hs I n (ix2 i d) = head (qCols I.q n) (kvCols I.k n) (kvCols I.v n) i d := by
  fin_cases n
  exacts [h0_at I i d, h1_at I i d, h2_at I i d, h3_at I i d, h4_at I i d, h5_at I i d, h6_at I i d, h7_at I i d]

/-- What the device adds to the result. -/
def share (i : Fin 256) (j : Fin 1024) : EReal :=
  ∑ n : Fin 8, ∑ d : Fin 128, head (qCols I.q n) (kvCols I.k n) (kvCols I.v n) i d * I.wo (ix2 (at8 n d) j)

theorem wo_at (w : FVec Ideal S1024x1024 .f32) (i j : Fin 1024) : (k0_pay5 w : FVec Ideal S1024x1024 .bf16) (ix2 i j) = (w (ix2 i j) : EReal) := by
  pointwise [k0_pay5]
theorem product_at (i : Fin 256) (j : Fin 1024) : times (side (hs I)) (k0_pay5 I.wo) (ix2 i j) = share I i j := by
  rw [times_at]
  simp only [hs_at, wo_at]
  rfl
theorem same_at (x : FVec Ideal S256x1024 .f32) (i : Fin 256) (j : Fin 1024) :
    shapeCast S256x1024 x shapeCasts_S256x1024_S256x1024 (ix2 i j) = x (ix2 i j) := by
  pointwise
theorem part_eq : I.part = shapeCast S256x1024 (times (side (hs I)) (k0_pay5 I.wo)) shapeCasts_S256x1024_S256x1024 := rfl
theorem pb_eq : I.pb = shapeCast S256x1024 (times (side (hs I)) (k0_pay5 I.wo)) shapeCasts_S256x1024_S256x1024 := rfl
theorem part_at (i : Fin 256) (j : Fin 1024) : I.part (ix2 i j) = share I i j := by
  rw [part_eq, same_at, product_at]
theorem pb_at (i : Fin 256) (j : Fin 1024) : I.pb (ix2 i j) = share I i j := by
  rw [pb_eq, same_at, product_at]

theorem q_at (i : Fin 256) (e : Fin 1024) : I.q (ix2 i e) = ∑ k, I.x (ix3 0 i k) * I.wq (ix2 k e) := by
  show k0_pay6 (k0_pay1 I.x) (k0_pay2 I.wq) (ix2 i e) = _
  pointwise [k0_pay6, k0_pay1, k0_pay2]
theorem k_at (i e : Fin 256) : I.k (ix2 i e) = ∑ k, I.x (ix3 0 i k) * I.wk (ix2 k e) := by
  show k0_pay7 (k0_pay1 I.x) (k0_pay3 I.wk) (ix2 i e) = _
  pointwise [k0_pay7, k0_pay1, k0_pay3]
theorem v_at (i e : Fin 256) : I.v (ix2 i e) = ∑ k, I.x (ix3 0 i k) * I.wv (ix2 k e) := by
  show k0_pay8 (k0_pay1 I.x) (k0_pay4 I.wv) (ix2 i e) = _
  pointwise [k0_pay8, k0_pay1, k0_pay4]

end Cert.Attn
-- ==== Proof.Value.Sum.lean ====
/-
  What every device's result holds over the extended reals: the sum of the four devices' partial products.
-/
module

public import proofs.«01_k».proof.Proof.Value.Heads
public import proofs.«01_k».proof.Proof.KernelIdeal.Region

@[expose] public section

set_option maxRecDepth 16384

noncomputable section

namespace Cert.Attn

open Cert.KernelIdeal Cert.KernelIdeal.Gen Cert.KernelIdealProof
open Idealize.ShloMosaic Idealize.ShloMosaic.TcCoe

variable (X : Dev nD → Ins Ideal)

/-- The sum over the devices. -/
def total (i : Fin 256) (j : Fin 1024) : EReal := ∑ c : Dev nD, share (X c) i j

/-- In the order in which device `c` adds. -/
theorem total_eq (c : Dev nD) (i : Fin 256) (j : Fin 1024) :
    total X i j = share (X c) i j + share (X (p3 c)) i j + share (X (p2 c)) i j + share (X (p1 c)) i j := by
  show ∑ c : Fin 4, share (X c) i j = _
  rw [Fin.sum_univ_four]
  generalize hf : (fun c => share (X c) i j) = f
  have e : ∀ c, share (X c) i j = f c := fun c => by rw [← hf]
  simp only [e]
  have key : ∀ c : Dev nD, (c = 0 ∧ p3 c = 3 ∧ p2 c = 2 ∧ p1 c = 1) ∨ (c = 1 ∧ p3 c = 0 ∧ p2 c = 3 ∧ p1 c = 2)
      ∨ (c = 2 ∧ p3 c = 1 ∧ p2 c = 0 ∧ p1 c = 3) ∨ (c = 3 ∧ p3 c = 2 ∧ p2 c = 1 ∧ p1 c = 0) := by decide
  rcases key c with ⟨h0, h3, h2, h1⟩ | ⟨h0, h3, h2, h1⟩ | ⟨h0, h3, h2, h1⟩ | ⟨h0, h3, h2, h1⟩
  all_goals rw [h3, h2, h1, h0]; abel

/-! ## A block of rows -/

/-- Row `r` of device `c`'s rows. -/
def row (c : Dev nD) (r : Fin 64) : Fin 256 := ⟨64 * c.val + r.val, by have : c.val < 4 := c.isLt; have := r.isLt; omega⟩

theorem emb_rows {o : Fin 2 → ℕ} (inb : ∀ a, o a + S64x1024.size a ≤ S256x1024.size a) (c : Dev nD) (h : o = ![64 * c.val, 0]) (r : Fin 64) (j : Fin 1024) :
    (Rect.unit (s := S256x1024) o S64x1024.size inb).emb (ix2 r j) = ix2 (row c r) j := by
  subst h
  refine funext fun a => Fin.ext ?_
  rw [Rect.emb_apply]
  fin_cases a
  · show 64 * c.val + 1 * r.val = 64 * c.val + r.val; omega
  · show 0 + 1 * j.val = j.val; omega
theorem rowsB_at (P : PBuf Ideal) (c : Dev nD) (r : Fin 64) (j : Fin 1024) : rowsB P c (ix2 r j) = P (ix2 (row c r) j) :=
  congrArg P (emb_rows (rowsInb c) c rfl r j)
theorem own_at (c : Dev nD) (r : Fin 64) (j : Fin 1024) : ownRows X c (ix2 r j) = share (X c) (row c r) j :=
  (congrArg (X c).part (emb_rows (k0_off2_inb c) c (k0_off2_eq c) r j)).trans (part_at _ _ _)

theorem cube_at (x : FVec Ideal S64x1024 .bf16) (r : Fin 64) (j : Fin 1024) : (cube (F := Ideal) x : FVec Ideal S1x64x1024 .bf16) (ix3 0 r j) = x (ix2 r j) := by
  unfold cube
  pointwise
theorem add2_at (a : FVec Ideal S64x1024 .f32) (u v : FVec Ideal S1x64x1024 .bf16) (r : Fin 64) (j : Fin 1024) :
    k0_pay25 a u v (ix2 r j) = a (ix2 r j) + u (ix3 0 r j) + v (ix3 0 r j) := by
  pointwise [k0_pay25]
theorem flat_at (u : FVec Ideal S1x64x1024 .bf16) (r : Fin 64) (j : Fin 1024) : (k0_pay26 u : FVec Ideal S64x1024 .f32) (ix2 r j) = (u (ix3 0 r j) : EReal) := by
  pointwise [k0_pay26]
theorem add_at (a b : FVec Ideal S64x1024 .f32) (r : Fin 64) (j : Fin 1024) :
    (k0_pay28 a b : FVec Ideal S1x64x1024 .f32) (ix3 0 r j) = a (ix2 r j) + b (ix2 r j) := by
  pointwise [k0_pay28, k0_pay27]
theorem round_at (a b : FVec Ideal S64x1024 .f32) (r : Fin 64) (j : Fin 1024) :
    (k0_pay29 a b : FVec Ideal S64x1024 .bf16) (ix2 r j) = a (ix2 r j) + b (ix2 r j) := by
  pointwise [k0_pay29, k0_pay27]
theorem wide30_at (u : FVec Ideal S1x64x1024 .bf16) (r : Fin 64) (j : Fin 1024) : (k0_pay30 u : FVec Ideal S1x64x1024 .f32) (ix3 0 r j) = u (ix3 0 r j) := by
  pointwise [k0_pay30]
theorem wide31_at (u : FVec Ideal S1x64x1024 .bf16) (r : Fin 64) (j : Fin 1024) : (k0_pay31 u : FVec Ideal S1x64x1024 .f32) (ix3 0 r j) = u (ix3 0 r j) := by
  pointwise [k0_pay31]
theorem wide33_at (u : FVec Ideal S1x64x1024 .bf16) (r : Fin 64) (j : Fin 1024) :
    (k0_pay33 (k0_pay32 u) : FVec Ideal S1x64x1024 .f32) (ix3 0 r j) = u (ix3 0 r j) := by
  pointwise [k0_pay33, k0_pay32]

/-! ## The four blocks of the result -/

theorem sum_at (c : Dev nD) (r : Fin 64) (j : Fin 1024) : sum2 X c (ix2 r j) + last X c (ix2 r j) = total X (row c r) j := by
  have e : ∀ d : Dev nD, PBX X d (ix2 (row c r) j) = share (X d) (row c r) j := fun d => pb_at _ _ _
  unfold sum2 last
  rw [add2_at, flat_at, own_at, cube_at, cube_at, cube_at, rowsB_at, rowsB_at, rowsB_at, e, e, e, total_eq X c]
theorem red_at (c : Dev nD) (r : Fin 64) (j : Fin 1024) : redV (RBX X c) (ix2 r j) = total X (row c r) j :=
  (round_at (sum2 X c) (last X c) r j).trans (sum_at X c r j)

/-- The result as a function of its index. -/
def outG (y : S1x256x1024.Idx) : EReal := total X (y 1) (y 2)

theorem emb_block {o : Fin 3 → ℕ} (inb : ∀ a, o a + S1x64x1024.size a ≤ S1x256x1024.size a) (c : Dev nD) (h : o = ![0, 64 * c.val, 0]) (r : Fin 64) (j : Fin 1024) :
    outG X ((Rect.unit (s := S1x256x1024) o S1x64x1024.size inb).emb (ix3 0 r j)) = total X (row c r) j := by
  subst h
  unfold outG
  congr 1
  · refine Fin.ext ?_
    rw [Rect.emb_apply]
    show 64 * c.val + 1 * r.val = 64 * c.val + r.val; omega
  · refine Fin.ext ?_
    rw [Rect.emb_apply]
    show 0 + 1 * j.val = j.val; omega

/-- A piece that holds device `c`'s rows of the total at device `c`'s rows. -/
theorem piece_ok {o : Fin 3 → ℕ} (inb : ∀ a, o a + S1x64x1024.size a ≤ S1x256x1024.size a) (c : Dev nD) (h : o = ![0, 64 * c.val, 0])
    (w : S1x64x1024.Idx → EReal) (hw : ∀ r j, w (ix3 0 r j) = total X (row c r) j) (x : S1x64x1024.Idx) :
    w x = outG X ((Rect.unit (s := S1x256x1024) o S1x64x1024.size inb).emb x) := by
  obtain ⟨z, r, j, rfl⟩ : ∃ (z : Fin 1) (r : Fin 64) (j : Fin 1024), x = ix3 z r j := ⟨x 0, x 1, x 2, by funext a; fin_cases a <;> rfl⟩
  obtain rfl : z = 0 := Subsingleton.elim _ _
  rw [emb_block X inb c h, hw]

theorem pieces_ok (c : Dev nD) (p : View.Piece (Elt Ideal) S1x256x1024 .f32) (hp : p ∈ out4 X c) (x : p.1.shape.Idx) : p.2 x = outG X (p.1.emb x) := by
  simp only [out4, out3, out2, out1, List.mem_cons, List.not_mem_nil, or_false] at hp
  rcases hp with rfl | rfl | rfl | rfl
  · exact piece_ok X (k0_off4_inb c 2) (p1 c) (k0_off4_eq c 2) _ (fun r j => (wide33_at _ r j).trans ((cube_at _ r j).trans (red_at X (p1 c) r j))) x
  · exact piece_ok X (k0_off4_inb c 1) (p2 c) (k0_off4_eq c 1) _ (fun r j => (wide31_at _ r j).trans ((cube_at _ r j).trans (red_at X (p2 c) r j))) x
  · exact piece_ok X (k0_off4_inb c 0) (p3 c) (k0_off4_eq c 0) _ (fun r j => (wide30_at _ r j).trans ((cube_at _ r j).trans (red_at X (p3 c) r j))) x
  · exact piece_ok X (k0_off3_inb c) c (k0_off3_eq c) _ (fun r j => (add_at _ _ r j).trans (sum_at X c r j)) x

/-- Every device's result. -/
theorem outV_at (m : (ℓ : Loc nD τ sig) → Buf (Elt Ideal) ℓ) (c : Dev nD) (y : S1x256x1024.Idx) : outV m c y = outG (ins m) y := by
  unfold outV
  exact View.read_writes_apply_of_pieces outM.view _ (outG (ins m)) (out4 (ins m) c) (fun p hp x => pieces_ok (ins m) c p hp x) y (out_cover (ins m) c y)

end Cert.Attn
-- ==== Proof.Value.Operands.lean ====
/-
  What the pipeline stages on each device, by the whole arguments.
-/
module

public import proofs.«01_k».proof.Proof.Value.Sum
public import Idealize.ShloMosaic.Lib.StableHlo.ReadAt
public import Idealize.ShloMosaic.Lib.DynamicIndex

@[expose] public section

set_option maxRecDepth 16384

noncomputable section

namespace Cert.Attn

open Cert.KernelIdeal Cert.KernelIdeal.Gen Cert.KernelIdealProof
open Idealize.ShloMosaic Idealize.ShloMosaic.TcCoe

variable (m : (ℓ : Loc nD τ sig) → Buf (Elt Ideal) ℓ) (c : Dev nD)

/-- The first column of the device's keys and values. -/
abbrev kvOff : Fin S1024x1024.rank → ℕ := ![0, 256 * c.val]
theorem kvFits : S1024x1024.Slices (kvOff c) S1024x256 := by revert c; decide

theorem start0 : (StableHlo.upto (hostOps0 c) (V0 m c) 14 (Proc.devRef .tc main_c_4) : IVec S_ 32) (Shape.Idx.first h_S_) = 0#32 := by
  after_reads_simp
  rfl
theorem start1 : (StableHlo.upto (hostOps0 c) (V0 m c) 14 (Proc.devRef .tc main_v8) : IVec S_ 32) (Shape.Idx.first h_S_) = BitVec.ofNat 32 (256 * c.val) := by
  after_reads_simp
  revert c
  decide +kernel

theorem start0' : (StableHlo.upto (hostOps0 c) (V0 m c) 23 (Proc.devRef .tc main_c_8) : IVec S_ 32) (Shape.Idx.first h_S_) = 0#32 := by
  after_reads_simp
  rfl
theorem start1' : (StableHlo.upto (hostOps0 c) (V0 m c) 23 (Proc.devRef .tc main_v13) : IVec S_ 32) (Shape.Idx.first h_S_) = BitVec.ofNat 32 (256 * c.val) := by
  after_reads_simp
  revert c
  decide +kernel

theorem slice_eq (w : FVec Ideal S1024x1024 .f32) (start : Fin 2 → Int) (h : S1024x1024.Slices (fun _ => 0) S1024x256) (h0 : start 0 = 0)
    (h1 : start 1 = (256 * c.val : ℕ)) : Host.dynamicSlice S1024x256 w start h = extractStridedSlice S1024x256 (kvOff c) w (kvFits c) :=
  Host.dynamicSlice_eq_extractStridedSlice _ _ _ _ _ (kvFits c) fun k => match k with
    | ⟨0, _⟩ => h0
    | ⟨1, _⟩ => h1
theorem v9_eq : V1 m c (Proc.devRef .tc main_v9)
    = extractStridedSlice S1024x256 (kvOff c) (m ((c : Thread nD τ).loc main_arg2) : FVec Ideal S1024x1024 .f32) (kvFits c) := by
  unfold V1
  after_reads_simp
  refine slice_eq c _ _ _ ?_ ?_
  · exact congrArg BitVec.toInt (start0 m c)
  · refine (congrArg BitVec.toInt (start1 m c)).trans (toInt_ofNat_of_lt ?_)
    have : c.val < 4 := c.isLt
    omega

theorem v14_eq : V1 m c (Proc.devRef .tc main_v14)
    = extractStridedSlice S1024x256 (kvOff c) (m ((c : Thread nD τ).loc main_arg3) : FVec Ideal S1024x1024 .f32) (kvFits c) := by
  unfold V1
  after_reads_simp
  refine slice_eq c _ _ _ ?_ ?_
  · exact congrArg BitVec.toInt (start0' m c)
  · refine (congrArg BitVec.toInt (start1' m c)).trans (toInt_ofNat_of_lt ?_)
    have : c.val < 4 := c.isLt
    omega

/-! ## The staged operands, at an index -/

theorem x_at (y : S1x256x1024.Idx) : (ins m c).x y = m ((c : Thread nD τ).loc main_arg0) y := by
  show ((cfg0.win 0).blk t0_0).view.read (Elt Ideal) (V1 m c (Proc.devRef .tc main_arg0)) y = _
  rw [show V1 m c (Proc.devRef .tc main_arg0) = m ((c : Thread nD τ).loc main_arg0) from V1_of m c main_arg0 (by decide)]
  have e : win0_0.index t0_0 = ![0, 0, 0] := by decide +kernel
  blk_ext [e]
theorem wq_at (y : S1024x1024.Idx) : (ins m c).wq y = m ((c : Thread nD τ).loc main_arg1) y := by
  show ((cfg0.win 1).blk t0_0).view.read (Elt Ideal) (V1 m c (Proc.devRef .tc main_arg1)) y = _
  rw [show V1 m c (Proc.devRef .tc main_arg1) = m ((c : Thread nD τ).loc main_arg1) from V1_of m c main_arg1 (by decide)]
  have e : win0_1.index t0_0 = ![0, 0] := by decide +kernel
  blk_ext [e]
theorem woAll_at (y : S1024x1024.Idx) : (ins m c).wo y = m ((c : Thread nD τ).loc main_arg4) y := by
  show ((cfg0.win 2).blk t0_0).view.read (Elt Ideal) (V1 m c (Proc.devRef .tc main_arg4)) y = _
  rw [show V1 m c (Proc.devRef .tc main_arg4) = m ((c : Thread nD τ).loc main_arg4) from V1_of m c main_arg4 (by decide)]
  have e : win0_2.index t0_0 = ![0, 0] := by decide +kernel
  blk_ext [e]

/-- Column `256 c + e`. -/
def kvCol (c : Dev nD) (e : Fin 256) : Fin 1024 := ⟨256 * c.val + e.val, by have : c.val < 4 := c.isLt; have := e.isLt; omega⟩
theorem slice_at (w : FVec Ideal S1024x1024 .f32) (k : Fin 1024) (e : Fin 256) :
    extractStridedSlice S1024x256 (kvOff c) w (kvFits c) (ix2 k e) = w (ix2 k (kvCol c e)) := by
  refine congrArg w (funext fun a => Fin.ext ?_)
  match a with
  | ⟨0, _⟩ => show 0 + k.val = k.val; omega
  | ⟨1, _⟩ => rfl
theorem wk_at (k : Fin 1024) (e : Fin 256) : (ins m c).wk (ix2 k e) = m ((c : Thread nD τ).loc main_arg2) (ix2 k (kvCol c e)) := by
  refine Eq.trans ?_ ((congrFun (v9_eq m c) (ix2 k e)).trans (slice_at c _ k e))
  show ((cfg0.win 3).blk t0_0).view.read (Elt Ideal) (V1 m c (Proc.devRef .tc main_v9)) (ix2 k e) = _
  generalize V1 m c (Proc.devRef .tc main_v9) = f
  have e : win0_3.index t0_0 = ![0, 0] := by decide +kernel
  blk_ext [e]
theorem wv_at (k : Fin 1024) (e : Fin 256) : (ins m c).wv (ix2 k e) = m ((c : Thread nD τ).loc main_arg3) (ix2 k (kvCol c e)) := by
  refine Eq.trans ?_ ((congrFun (v14_eq m c) (ix2 k e)).trans (slice_at c _ k e))
  show ((cfg0.win 4).blk t0_0).view.read (Elt Ideal) (V1 m c (Proc.devRef .tc main_v14)) (ix2 k e) = _
  generalize V1 m c (Proc.devRef .tc main_v14) = f
  have e : win0_4.index t0_0 = ![0, 0] := by decide +kernel
  blk_ext [e]

end Cert.Attn
-- ==== Proof.Value.Equal.lean ====
/-
  The four devices' partial products together are the reference's result: device `c`'s eight heads are the reference's heads `8 c …`.
-/
module

public import proofs.«01_k».proof.Proof.Value.Operands
public import Idealize.ShloMosaic.Lib.Layout

@[expose] public section

set_option maxRecDepth 16384

noncomputable section

namespace Cert.Attn

open Cert.KernelIdeal Cert.KernelIdeal.Gen Cert.KernelIdealProof
open Idealize.ShloMosaic Idealize.ShloMosaic.TcCoe

/-- Head `n` of device `c` among all. -/
def gl (c : Dev nD) (n : Fin 8) : Fin 32 := ⟨8 * c.val + n.val, by have : c.val < 4 := c.isLt; have := n.isLt; omega⟩
/-- Row or column `1024 c + e`. -/
def place (c : Dev nD) (e : Fin 1024) : Fin 4096 := ⟨1024 * c.val + e.val, by have : c.val < 4 := c.isLt; have := e.isLt; omega⟩

/-- A head is a device and a head of it. -/
def headEquiv : Dev nD × Fin 8 ≃ Fin 32 where
  toFun p := gl p.1 p.2
  invFun g := (⟨g.val / 8, by have := g.isLt; show _ < 4; omega⟩, ⟨g.val % 8, by omega⟩)
  left_inv p := by
    have := p.2.isLt
    refine Prod.ext (Fin.ext ?_) (Fin.ext ?_)
    · show (8 * p.1.val + p.2.val) / 8 = p.1.val; omega
    · show (8 * p.1.val + p.2.val) % 8 = p.2.val; omega
  right_inv g := Fin.ext (by show 8 * (g.val / 8) + g.val % 8 = g.val; omega)

theorem sum_heads (f : Fin 32 → EReal) : ∑ g, f g = ∑ c : Dev nD, ∑ n : Fin 8, f (gl c n) :=
  (Equiv.sum_comp headEquiv f).symm.trans (Fintype.sum_prod_type _)

theorem place_at (c : Dev nD) (n : Fin 8) (d : Fin 128) : place c (at8 n d) = at32 (gl c n) d :=
  Fin.ext (by show 1024 * c.val + (128 * n.val + d.val) = 128 * (8 * c.val + n.val) + d.val; omega)
theorem kvCol_at (c : Dev nD) (n : Fin 8) (d : Fin 128) (h : 128 * (n.val / 4) + d.val < 256) : kvCol c ⟨128 * (n.val / 4) + d.val, h⟩ = at8 (kv (gl c n)) d :=
  Fin.ext (by show 256 * c.val + (128 * (n.val / 4) + d.val) = 128 * ((8 * c.val + n.val) / 4) + d.val; omega)

/-- Device `c`'s operands are its part of the whole arguments. -/
structure Part (A : Args) (I : Ins Ideal) (c : Dev nD) : Prop where
  x : ∀ i k, I.x (ix3 0 i k) = A.x (ix3 0 i k)
  wq : ∀ k e, I.wq (ix2 k e) = A.wq (ix2 k (place c e))
  wk : ∀ k e, I.wk (ix2 k e) = A.wk (ix2 k (kvCol c e))
  wv : ∀ k e, I.wv (ix2 k e) = A.wv (ix2 k (kvCol c e))
  wo : ∀ e j, I.wo (ix2 e j) = A.wo (ix2 (place c e) j)

theorem qCols_eq {A : Args} {I : Ins Ideal} {c : Dev nD} (h : Part A I c) (n : Fin 8) : qCols I.q n = A.q (gl c n) := by
  funext i d
  show I.q (ix2 i (at8 n d)) = _
  rw [q_at]
  simp only [h.x, h.wq, place_at]
  rfl
theorem kCols_eq {A : Args} {I : Ins Ideal} {c : Dev nD} (h : Part A I c) (n : Fin 8) : kvCols I.k n = A.k (gl c n) := by
  funext i d
  unfold kvCols
  rw [k_at]
  simp only [h.x, h.wk, kvCol_at]
  rfl
theorem vCols_eq {A : Args} {I : Ins Ideal} {c : Dev nD} (h : Part A I c) (n : Fin 8) : kvCols I.v n = A.v (gl c n) := by
  funext i d
  unfold kvCols
  rw [v_at]
  simp only [h.x, h.wv, kvCol_at]
  rfl

theorem share_eq {A : Args} {I : Ins Ideal} {c : Dev nD} (h : Part A I c) (i : Fin 256) (j : Fin 1024) : share I i j = ∑ n, A.term (gl c n) i j := by
  unfold share Args.term
  simp only [qCols_eq h, kCols_eq h, vCols_eq h, h.wo, place_at]

theorem total_out (A : Args) (X : Dev nD → Ins Ideal) (h : ∀ c, Part A (X c) c) (i : Fin 256) (j : Fin 1024) : total X i j = A.out i j := by
  unfold total Args.out
  rw [sum_heads]
  exact Finset.sum_congr rfl fun c _ => share_eq (h c) i j

variable (m : (ℓ : Loc nD τ sig) → Buf (Elt Ideal) ℓ) (m' : (ℓ : Loc Cert.ReferenceIdeal.nD Cert.ReferenceIdeal.τ Cert.ReferenceIdeal.sig) → Buf (Elt Ideal) ℓ)

/-- The launch memories hold the same arguments, cut as the placements say. -/
def Agree : Prop := ∀ c : Dev nD,
  m ((c.tc : Thread nD τ).loc main_arg0) = m' (((0 : Dev Cert.ReferenceIdeal.nD).tc : Thread Cert.ReferenceIdeal.nD Cert.ReferenceIdeal.τ).loc Cert.ReferenceIdeal.main_arg0)
  ∧ m ((c.tc : Thread nD τ).loc main_arg1) = Layout.block ⟨2, ![1024, 1024]⟩ ⟨2, ![1024, 4096]⟩ 1 4 c (m' (((0 : Dev Cert.ReferenceIdeal.nD).tc : Thread Cert.ReferenceIdeal.nD Cert.ReferenceIdeal.τ).loc Cert.ReferenceIdeal.main_arg1))
  ∧ m ((c.tc : Thread nD τ).loc main_arg2) = m' (((0 : Dev Cert.ReferenceIdeal.nD).tc : Thread Cert.ReferenceIdeal.nD Cert.ReferenceIdeal.τ).loc Cert.ReferenceIdeal.main_arg2)
  ∧ m ((c.tc : Thread nD τ).loc main_arg3) = m' (((0 : Dev Cert.ReferenceIdeal.nD).tc : Thread Cert.ReferenceIdeal.nD Cert.ReferenceIdeal.τ).loc Cert.ReferenceIdeal.main_arg3)
  ∧ m ((c.tc : Thread nD τ).loc main_arg4) = Layout.block ⟨2, ![1024, 1024]⟩ ⟨2, ![4096, 1024]⟩ 0 4 c (m' (((0 : Dev Cert.ReferenceIdeal.nD).tc : Thread Cert.ReferenceIdeal.nD Cert.ReferenceIdeal.τ).loc Cert.ReferenceIdeal.main_arg4))

theorem col_block (w : (⟨2, ![1024, 4096]⟩ : Shape).Idx → EReal) (c : Dev nD) (k e : Fin 1024) :
    Layout.block ⟨2, ![1024, 1024]⟩ ⟨2, ![1024, 4096]⟩ 1 4 c w (by decide) (ix2 k e) = w (ix2 k (place c e)) :=
  congrArg w (funext fun a => Fin.ext (match a with
    | ⟨0, _⟩ => rfl
    | ⟨1, _⟩ => by show c.val * 1024 + e.val = 1024 * c.val + e.val; omega))
theorem row_block (w : (⟨2, ![4096, 1024]⟩ : Shape).Idx → EReal) (c : Dev nD) (e j : Fin 1024) :
    Layout.block ⟨2, ![1024, 1024]⟩ ⟨2, ![4096, 1024]⟩ 0 4 c w (by decide) (ix2 e j) = w (ix2 (place c e) j) :=
  congrArg w (funext fun a => Fin.ext (match a with
    | ⟨0, _⟩ => by show c.val * 1024 + e.val = 1024 * c.val + e.val; omega
    | ⟨1, _⟩ => rfl))

theorem parts (h : Agree m m') (c : Dev nD) : Part (refArgs m') (ins m c) c where
  x i k := (x_at m c _).trans (congrFun (h c).1 _)
  wq k e := (wq_at m c _).trans ((congrFun (h c).2.1 _).trans (col_block _ c k e))
  wk k e := (wk_at m c k e).trans (congrFun (h c).2.2.1 _)
  wv k e := (wv_at m c k e).trans (congrFun (h c).2.2.2.1 _)
  wo e j := (woAll_at m c _).trans ((congrFun (h c).2.2.2.2 _).trans (row_block _ c e j))

/-- Every device's result is the reference's. -/
theorem result_eq (h : Agree m m') (c : Dev nD) :
    (outV m c : FVec Ideal S1x256x1024 .f32) = (Cert.ReferenceIdeal.Value.res_main_v38 m' 0 : FVec Ideal S1x256x1024 .f32) := by
  funext y
  obtain ⟨z, i, j, rfl⟩ : ∃ (z : Fin 1) (i : Fin 256) (j : Fin 1024), y = ix3 z i j := ⟨y 0, y 1, y 2, by funext a; fin_cases a <;> rfl⟩
  obtain rfl : z = 0 := Subsingleton.elim _ _
  exact (outV_at m c _).trans ((total_out (refArgs m') (ins m) (parts m m' h) i j).trans (reference_at m' i j).symm)

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Value.Equal
public import Idealize.ShloMosaic.Lib.Claim
public import Idealize.ShloMosaic.Adequacy
public import Idealize.ShloMosaic.Init

@[expose] public section

noncomputable section

namespace Cert.Proof

open Idealize.ShloMosaic Idealize.SL.Sem

/-- The kernel at the machine's floats: its run, with the result's value dropped. -/
theorem frame_kernel : Cert.quiescent_Kernel (hKernel := Cert.Kernel.Gen.facts) := fun m g _ =>
  θ_run_mono (Cert.KernelProof.run_main (F := Bits) m g) fun _ h => ⟨fun c => (h.1 c).2, h.2⟩

/-- The kernel at the extended reals: the same run there. -/
theorem frame_ideal : Cert.quiescent_KernelIdeal (hKernelIdeal := Cert.KernelIdeal.Gen.facts) := fun m g _ =>
  θ_run_mono (Cert.KernelIdealProof.run_main (F := Ideal) m g) fun _ h => ⟨fun c => (h.1 c).2, h.2⟩

/-- The reference: host operations only, so no counter is ever touched. -/
theorem frame_reference : Cert.quiescent_ReferenceIdeal (hReferenceIdeal := Cert.ReferenceIdeal.Gen.facts) := fun m g _ =>
  θ_run_mono (Cert.ReferenceIdeal.Value.run (F := Ideal) m g) fun _ h => ⟨fun c => (h c).2, sem_eq_zero_of_no_sems (by decide) _⟩

/-- Over the extended reals every device ends with the reference's result. -/
theorem kernel_algebraic : Cert.algebraic_KernelIdeal_ReferenceIdeal (hKernelIdeal := Cert.KernelIdeal.Gen.facts) (hReferenceIdeal := Cert.ReferenceIdeal.Gen.facts) :=
  fun m g m' g' _ h => ⟨Cert.ReferenceIdeal.Value.res_main_v38 m' 0,
    θ_run_mono (Cert.KernelIdealProof.run_main (F := Ideal) m g) fun _ r c => ⟨(r.1 c).1.trans (Cert.Attn.result_eq m m' h c), (r.1 c).2⟩,
    θ_run_mono (Cert.ReferenceIdeal.Value.run (F := Ideal) m' g') fun _ r => r 0⟩

theorem claim : Cert.Claim := ⟨Cert.Kernel.Gen.facts, Cert.KernelIdeal.Gen.facts, Cert.ReferenceIdeal.Gen.facts,
  frame_kernel, frame_ideal, frame_reference, trivial, kernel_algebraic⟩

end Cert.Proof

end
